-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_in_range [hPre_scores_in_range : Cert.Pre_scores_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_in_range [hPre_scores_in_range : Cert.Pre_scores_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_scores_in_range [hKernelIdeal : Cert.KernelIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_scores_in_range [hReferenceIdeal : Cert.ReferenceIdeal.Facts] [hPre_scores_in_range : Cert.Pre_scores_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_scores_in_range [hKernelIdeal : Cert.KernelIdeal.Facts] [hReferenceIdeal : Cert.ReferenceIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_scores_in_range : Cert.Pre_scores_in_range.Facts),
    quiescent_Kernel (hKernel := hKernel)
    ∧ quiescent_KernelIdeal (hKernelIdeal := hKernelIdeal)
    ∧ quiescent_KernelIdeal_pre_scores_in_range (hKernelIdeal := hKernelIdeal) (hPre_scores_in_range := hPre_scores_in_range)
    ∧ quiescent_ReferenceIdeal (hReferenceIdeal := hReferenceIdeal)
    ∧ quiescent_ReferenceIdeal_pre_scores_in_range (hReferenceIdeal := hReferenceIdeal) (hPre_scores_in_range := hPre_scores_in_range)
    ∧ preserves_Kernel_KernelIdeal
    ∧ algebraic_KernelIdeal_ReferenceIdeal_pre_scores_in_range (hKernelIdeal := hKernelIdeal) (hReferenceIdeal := hReferenceIdeal) (hPre_scores_in_range := hPre_scores_in_range)
-- ==== Pre_scores_in_range.lean ====
abbrev S1x2048x1024 : Shape := ⟨3, ![1, 2048, 1024]⟩
abbrev S1x1x2048x2048 : Shape := ⟨4, ![1, 1, 2048, 2048]⟩
abbrev S1024 : Shape := ⟨1, ![1024]⟩
abbrev S1024x1024 : Shape := ⟨2, ![1024, 1024]⟩
abbrev S1024x64 : Shape := ⟨2, ![1024, 64]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x2048x64 : Shape := ⟨3, ![1, 2048, 64]⟩
abbrev S1x2048x2048 : Shape := ⟨3, ![1, 2048, 2048]⟩
abbrev S1x16x2048x2048 : Shape := ⟨4, ![1, 16, 2048, 2048]⟩

class Facts : Prop where
  bcast_S_S1x2048x1024 : S_.BroadcastsInDim S1x2048x1024 (![] : Fin 0 → Fin S1x2048x1024.rank)
  reducesTo_S1x2048x1024_S1x2048_d2 : S1x2048x1024.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x1024_0_1_2 : S1x2048x1.BroadcastsInDim S1x2048x1024 (![0, 1, 2] : Fin 3 → Fin S1x2048x1024.rank)
  bcast_S1024_S1x1x1024_2 : S1024.BroadcastsInDim S1x1x1024 (![2] : Fin 1 → Fin S1x1x1024.rank)
  bcast_S1x1x1024_S1x2048x1024_0_1_2 : S1x1x1024.BroadcastsInDim S1x2048x1024 (![0, 1, 2] : Fin 3 → Fin S1x2048x1024.rank)
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  bcast_S_S1x2048x2048 : S_.BroadcastsInDim S1x2048x2048 (![] : Fin 0 → Fin S1x2048x2048.rank)
  bcast_S_S1x16x2048x2048 : S_.BroadcastsInDim S1x16x2048x2048 (![] : Fin 0 → Fin S1x16x2048x2048.rank)
  bcast_S1x1x2048x2048_S1x16x2048x2048_0_1_2_3 : S1x1x2048x2048.BroadcastsInDim S1x16x2048x2048 (![0, 1, 2, 3] : Fin 4 → Fin S1x16x2048x2048.rank)
  bcast_S1x2048x2048_S1x1x2048x2048_0_2_3 : S1x2048x2048.BroadcastsInDim S1x1x2048x2048 (![0, 2, 3] : Fin 3 → Fin S1x1x2048x2048.rank)
  dot_S1x2048x1024_S1024x1024_S1x2048x1024_2_0_01_1_n_n_wf : DotDims.WF S1x2048x1024 S1024x1024 S1x2048x1024 [2] [0] [0, 1] [1] [] []
  dot_S1x2048x1024_S1024x64_S1x2048x64_2_0_01_1_n_n_wf : DotDims.WF S1x2048x1024 S1024x64 S1x2048x64 [2] [0] [0, 1] [1] [] []
  dot_S1x2048x64_S1x2048x64_S1x2048x2048_2_2_1_1_0_0_wf : DotDims.WF S1x2048x64 S1x2048x64 S1x2048x2048 [2] [2] [1] [1] [0] [0]
  dot_S1x16x2048x64_S1x16x2048x64_S1x16x2048x2048_3_3_2_2_01_01_wf : DotDims.WF S1x16x2048x64 S1x16x2048x64 S1x16x2048x2048 [3] [3] [2] [2] [0, 1] [0, 1]

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S1x2048x1024_S1024x64_S1x2048x64_2_0_01_1_n_n : DotDims S1x2048x1024 S1024x64 S1x2048x64 where
  lhsContracting := [2]
  rhsContracting := [0]
  lhsNonContracting := [0, 1]
  rhsNonContracting := [1]
  lhsBatch := []
  rhsBatch := []
  wf := dot_S1x2048x1024_S1024x64_S1x2048x64_2_0_01_1_n_n_wf
def dot_S1x2048x64_S1x2048x64_S1x2048x2048_2_2_1_1_0_0 : DotDims S1x2048x64 S1x2048x64 S1x2048x2048 where
  lhsContracting := [2]
  rhsContracting := [2]
  lhsNonContracting := [1]
  rhsNonContracting := [1]
  lhsBatch := [0]
  rhsBatch := [0]
  wf := dot_S1x2048x64_S1x2048x64_S1x2048x2048_2_2_1_1_0_0_wf
def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def fn_part2 {F : FTy → Type} [FloatOps F] (main_v36 : FVec F S1x16x2048x2048 .f32) (main_v38 : IVec S1x16x2048x2048 1) (main_cst_7 : FVec F S_ .f32) : IVec S1x16x2048x2048 1 :=
  let main_v39 : FVec F S1x16x2048x2048 .f32 := broadcastInDim S1x16x2048x2048 ![] bcast_S_S1x16x2048x2048 main_cst_7
  let main_v40 : IVec S1x16x2048x2048 1 := cmpf .olt main_v36 main_v39
  let main_v41 : IVec S1x16x2048x2048 1 := andi main_v38 main_v40
  main_v41

def fn_part1 {F : FTy → Type} [FloatOps F] (main_arg1 : FVec F S1x1x2048x2048 .f32) (main_arg3 : FVec F S1024x1024 .f32) (main_arg4 : FVec F S1024x1024 .f32) (main_arg7 : FVec F S1024x64 .f32) (main_v18 : FVec F S1x2048x1024 .f32) : IVec S1x16x2048x2048 1 :=
  let main_v19 : FVec F S1x2048x1024 .f32 := (fun l r => Host.dotGeneral dot_S1x2048x1024_S1024x1024_S1x2048x1024_2_0_01_1_n_n none l r) main_v18 main_arg3
  let main_v20 : FVec F S1x2048x16x64 .f32 := shapeCast S1x2048x16x64 main_v19 shapeCasts_S1x2048x1024_S1x2048x16x64
  let main_v21 : FVec F S1x16x2048x64 .f32 := (transpose S1x16x2048x64 [0, 2, 1, 3] · transposes_S1x2048x16x64_S1x16x2048x64_0_2_1_3) main_v20
  let main_v22 : FVec F S1x2048x1024 .f32 := (fun l r => Host.dotGeneral dot_S1x2048x1024_S1024x1024_S1x2048x1024_2_0_01_1_n_n none l r) main_v18 main_arg4
  let main_v23 : FVec F S1x2048x16x64 .f32 := shapeCast S1x2048x16x64 main_v22 shapeCasts_S1x2048x1024_S1x2048x16x64
  let main_v24 : FVec F S1x16x2048x64 .f32 := (transpose S1x16x2048x64 [0, 2, 1, 3] · transposes_S1x2048x16x64_S1x16x2048x64_0_2_1_3) main_v23
  let main_v25 : FVec F S1x2048x64 .f32 := (fun l r => Host.dotGeneral dot_S1x2048x1024_S1024x64_S1x2048x64_2_0_01_1_n_n none l r) main_v18 main_arg7
  let main_v26 : FVec F S1x2048x2048 .f32 := (fun l r => Host.dotGeneral dot_S1x2048x64_S1x2048x64_S1x2048x2048_2_2_1_1_0_0 none l r) main_v25 main_v25
  let main_cst_4 : FVec F S_ .f32 := constant S_ .f32 0x41000000#32
  let main_v27 : FVec F S1x2048x2048 .f32 := broadcastInDim S1x2048x2048 ![] bcast_S_S1x2048x2048 main_cst_4
  let main_v28 : FVec F S1x2048x2048 .f32 := Host.divf main_v26 main_v27
  let main_v29 : FVec F S1x16x2048x2048 .f32 := (fun l r => Host.dotGeneral dot_S1x16x2048x64_S1x16x2048x64_S1x16x2048x2048_3_3_2_2_01_01 none l r) main_v21 main_v24
  let main_cst_5 : FVec F S_ .f32 := constant S_ .f32 0x41000000#32
  let main_v30 : FVec F S1x16x2048x2048 .f32 := broadcastInDim S1x16x2048x2048 ![] bcast_S_S1x16x2048x2048 main_cst_5
  let main_v31 : FVec F S1x16x2048x2048 .f32 := Host.divf main_v29 main_v30
  let main_v32 : FVec F S1x16x2048x2048 .f32 := broadcastInDim S1x16x2048x2048 ![0, 1, 2, 3] bcast_S1x1x2048x2048_S1x16x2048x2048_0_1_2_3 main_arg1
  let main_v33 : FVec F S1x16x2048x2048 .f32 := addf main_v31 main_v32
  let main_v34 : FVec F S1x1x2048x2048 .f32 := broadcastInDim S1x1x2048x2048 ![0, 2, 3] bcast_S1x2048x2048_S1x1x2048x2048_0_2_3 main_v28
  let main_v35 : FVec F S1x16x2048x2048 .f32 := broadcastInDim S1x16x2048x2048 ![0, 1, 2, 3] bcast_S1x1x2048x2048_S1x16x2048x2048_0_1_2_3 main_v34
  let main_v36 : FVec F S1x16x2048x2048 .f32 := addf main_v33 main_v35
  let main_cst_6 : FVec F S_ .f32 := constant S_ .f32 0xFF61B1E6#32
  let main_v37 : FVec F S1x16x2048x2048 .f32 := broadcastInDim S1x16x2048x2048 ![] bcast_S_S1x16x2048x2048 main_cst_6
  let main_v38 : IVec S1x16x2048x2048 1 := cmpf .ogt main_v36 main_v37
  let main_cst_7 : FVec F S_ .f32 := constant S_ .f32 0x7F800000#32
  fn_part2 (F := F) main_v36 main_v38 main_cst_7

def fn {F : FTy → Type} [FloatOps F] (main_arg0 : FVec F S1x2048x1024 .f32) (main_arg1 : FVec F S1x1x2048x2048 .f32) (main_arg2 : FVec F S1024 .f32) (main_arg3 : FVec F S1024x1024 .f32) (main_arg4 : FVec F S1024x1024 .f32) (main_arg5 : FVec F S1024x1024 .f32) (main_arg6 : FVec F S1024x1024 .f32) (main_arg7 : FVec F S1024x64 .f32) (main_arg8 : FVec F S1024x4096 .f32) (main_arg9 : FVec F S4096 .f32) (main_arg10 : FVec F S4096x1024 .f32) (main_arg11 : FVec F S1024 .f32) (main_arg12 : FVec F S_ .f32) (main_arg13 : FVec F S_ .f32) (main_arg14 : FVec F S_ .f32) (main_arg15 : FVec F S_ .f32) : IVec S1x16x2048x2048 1 :=
  let main_v0 : FVec F S_ .f32 := Host.negf main_arg14
  let main_v1 : FVec F S_ .f32 := Host.exp main_v0
  let main_cst : FVec F S_ .f32 := constant S_ .f32 0x3F800000#32
  let main_v2 : FVec F S_ .f32 := addf main_cst main_v1
  let main_cst_0 : FVec F S_ .f32 := constant S_ .f32 0x3F800000#32
  let main_v3 : FVec F S_ .f32 := Host.divf main_cst_0 main_v2
  let main_v4 : FVec F S1x2048x1024 .f32 := broadcastInDim S1x2048x1024 ![] bcast_S_S1x2048x1024 main_v3
  let main_v5 : FVec F S1x2048x1024 .f32 := mulf main_v4 main_arg0
  let main_v6 : FVec F S1x2048x1024 .f32 := mulf main_v5 main_v5
  let main_cst_1 : FVec F S_ .f32 := constant S_ .f32 0x00000000#32
  let main_v7 : FVec F S1x2048 .f32 := (fun x v => Host.reduceAdd x v reducesTo_S1x2048x1024_S1x2048_d2 h_S_) main_v6 main_cst_1
  let main_v8 : FVec F S1x2048x1 .f32 := broadcastInDim S1x2048x1 ![0, 1] bcast_S1x2048_S1x2048x1_0_1 main_v7
  let main_cst_2 : FVec F S_ .f32 := constant S_ .f32 0x44800000#32
  let main_v9 : FVec F S1x2048x1 .f32 := broadcastInDim S1x2048x1 ![] bcast_S_S1x2048x1 main_cst_2
  let main_v10 : FVec F S1x2048x1 .f32 := Host.divf main_v8 main_v9
  let main_cst_3 : FVec F S_ .f32 := constant S_ .f32 0x358637BD#32
  let main_v11 : FVec F S1x2048x1 .f32 := broadcastInDim S1x2048x1 ![] bcast_S_S1x2048x1 main_cst_3
  let main_v12 : FVec F S1x2048x1 .f32 := addf main_v10 main_v11
  let main_v13 : FVec F S1x2048x1 .f32 := Host.rsqrt main_v12
  let main_v14 : FVec F S1x2048x1024 .f32 := broadcastInDim S1x2048x1024 ![0, 1, 2] bcast_S1x2048x1_S1x2048x1024_0_1_2 main_v13
  let main_v15 : FVec F S1x2048x1024 .f32 := mulf main_v5 main_v14
  let main_v16 : FVec F S1x1x1024 .f32 := broadcastInDim S1x1x1024 ![2] bcast_S1024_S1x1x1024_2 main_arg2
  let main_v17 : FVec F S1x2048x1024 .f32 := broadcastInDim S1x2048x1024 ![0, 1, 2] bcast_S1x1x1024_S1x2048x1024_0_1_2 main_v16
  let main_v18 : FVec F S1x2048x1024 .f32 := mulf main_v15 main_v17
  fn_part1 (F := F) main_arg1 main_arg3 main_arg4 main_arg7 main_v18
-- ==== Kernel.lean ====
abbrev S1x2048x1024 : Shape := ⟨3, ![1, 2048, 1024]⟩
abbrev S1x1x2048x2048 : Shape := ⟨4, ![1, 1, 2048, 2048]⟩
abbrev S1024 : Shape := ⟨1, ![1024]⟩
abbrev S1024x1024 : Shape := ⟨2, ![1024, 1024]⟩
abbrev S1024x64 : Shape := ⟨2, ![1024, 64]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S2048x1024 : Shape := ⟨2, ![2048, 1024]⟩
abbrev S2048x2048 : Shape := ⟨2, ![2048, 2048]⟩
abbrev S1 : Shape := ⟨1, ![1]⟩
abbrev S4 : Shape := ⟨1, ![4]⟩
abbrev S2048 : Shape := ⟨1, ![2048]⟩
abbrev S2048x1 : Shape := ⟨2, ![2048, 1]⟩
abbrev S1x1024 : Shape := ⟨2, ![1, 1024]⟩
abbrev S2048x64 : Shape := ⟨2, ![2048, 64]⟩
abbrev S256x1024 : Shape := ⟨2, ![256, 1024]⟩
abbrev S256x1 : Shape := ⟨2, ![256, 1]⟩
abbrev S256x64 : Shape := ⟨2, ![256, 64]⟩
abbrev S1x4096 : Shape := ⟨2, ![1, 4096]⟩
abbrev S256x4096 : Shape := ⟨2, ![256, 4096]⟩
abbrev S16x2048x32 : Shape := ⟨3, ![16, 2048, 32]⟩
abbrev S256x2048 : Shape := ⟨2, ![256, 2048]⟩
abbrev S16x256x32 : Shape := ⟨3, ![16, 256, 32]⟩
abbrev S256x32 : Shape := ⟨2, ![256, 32]⟩
abbrev S256 : Shape := ⟨1, ![256]⟩
abbrev S1x256x32 : Shape := ⟨3, ![1, 256, 32]⟩
abbrev S1x16x2048x32 : Shape := ⟨4, ![1, 16, 2048, 32]⟩

abbrev nBuf : Space → Nat
  | .hbm => 74
  | .vmem => 48
  | .smem => 3
  | _ => 0

abbrev bufTy : (tb : Table) → Fin (tcTables nBuf tb) → BufTy
  | .hbm, ⟨0, _⟩ => ⟨S1x2048x1024, .f32⟩
  | .hbm, ⟨1, _⟩ => ⟨S1x1x2048x2048, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x64, .f32⟩
  | .hbm, ⟨8, _⟩ => ⟨S1024x4096, .f32⟩
  | .hbm, ⟨9, _⟩ => ⟨S4096, .f32⟩
  | .hbm, ⟨10, _⟩ => ⟨S4096x1024, .f32⟩
  | .hbm, ⟨11, _⟩ => ⟨S1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x1024, .f32⟩
  | .hbm, ⟨17, _⟩ => ⟨S2048x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S1, .f32⟩
  | .hbm, ⟨41, _⟩ => ⟨S4, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x64, .f32⟩
  | .hbm, ⟨67, _⟩ => ⟨S1x4096, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S16x2048x32, .i32⟩
  | .hbm, ⟨72, _⟩ => ⟨S1x2048x1024, .f32⟩
  | .hbm, ⟨73, _⟩ => ⟨S1x16x2048x32, .i32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x64, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x64, .f32⟩
  | .local _ .vmem, ⟨18, _⟩ => ⟨S256x64, .f32⟩
  | .local _ .vmem, ⟨19, _⟩ => ⟨S256x1024, .f32⟩
  | .local _ .vmem, ⟨20, _⟩ => ⟨S256x1024, .f32⟩
  | .local _ .vmem, ⟨21, _⟩ => ⟨S1024x4096, .f32⟩
  | .local _ .vmem, ⟨22, _⟩ => ⟨S1x4096, .f32⟩
  | .local _ .vmem, ⟨23, _⟩ => ⟨S4096x1024, .f32⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S2048x1024, .f32⟩
  | .local _ .vmem, ⟨30, _⟩ => ⟨S2048x1024, .f32⟩
  | .local _ .vmem, ⟨31, _⟩ => ⟨S2048x64, .f32⟩
  | .local _ .vmem, ⟨32, _⟩ => ⟨S256x64, .f32⟩
  | .local _ .vmem, ⟨33, _⟩ => ⟨S256x64, .f32⟩
  | .local _ .vmem, ⟨34, _⟩ => ⟨S256x2048, .f32⟩
  | .local _ .vmem, ⟨35, _⟩ => ⟨S256x2048, .f32⟩
  | .local _ .vmem, ⟨36, _⟩ => ⟨S256x1024, .f32⟩
  | .local _ .vmem, ⟨37, _⟩ => ⟨S256x1024, .f32⟩
  | .local _ .vmem, ⟨38, _⟩ => ⟨S1024x1024, .f32⟩
  | .local _ .vmem, ⟨39, _⟩ => ⟨S256x1024, .f32⟩
  | .local _ .vmem, ⟨40, _⟩ => ⟨S256x1024, .f32⟩
  | .local _ .vmem, ⟨41, _⟩ => ⟨S16x256x32, .i32⟩
  | .local _ .vmem, ⟨42, _⟩ => ⟨S16x256x32, .i32⟩
  | .local _ .vmem, ⟨43, _⟩ => ⟨S256x2048, .f32⟩
  | .local _ .vmem, ⟨44, _⟩ => ⟨S256x2048, .f32⟩
  | .local _ .vmem, ⟨45, _⟩ => ⟨S256x2048, .f32⟩
  | .local _ .vmem, ⟨46, _⟩ => ⟨S256x2048, .f32⟩
  | .local _ .vmem, ⟨47, _⟩ => ⟨S256x1024, .f32⟩
  | .local _ .smem, ⟨0, _⟩ => ⟨S4, .f32⟩
  | .local _ .smem, ⟨1, _⟩ => ⟨S4, .f32⟩
  | .local _ .smem, ⟨2, _⟩ => ⟨S4, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_cst_5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_8 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_v28 : Ref sig .tc := ⟨.hbm, 55, rfl⟩
abbrev main_v29 : Ref sig .tc := ⟨.hbm, 56, rfl⟩
abbrev main_cst_10 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34_0 : Ref sig .tc := ⟨.hbm, 62, rfl⟩
abbrev main_v34_1 : Ref sig .tc := ⟨.hbm, 63, rfl⟩
abbrev main_v34_2 : Ref sig .tc := ⟨.hbm, 64, rfl⟩
abbrev main_v34_3 : Ref sig .tc := ⟨.hbm, 65, rfl⟩
abbrev main_v34_4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38_0 : Ref sig .tc := ⟨.hbm, 70, rfl⟩
abbrev main_v38_1 : Ref sig .tc := ⟨.hbm, 71, rfl⟩
abbrev main_v39 : Ref sig .tc := ⟨.hbm, 72, rfl⟩
abbrev main_v40 : Ref sig .tc := ⟨.hbm, 73, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg9_1 : Ref sig .tc := ⟨.vmem, 40, rfl⟩
abbrev cc2_stg10_0 : Ref sig .tc := ⟨.vmem, 41, rfl⟩
abbrev cc2_stg10_1 : Ref sig .tc := ⟨.vmem, 42, rfl⟩
abbrev cc2_scratch0 : Ref sig .tc := ⟨.vmem, 43, rfl⟩
abbrev cc2_scratch1 : Ref sig .tc := ⟨.vmem, 44, rfl⟩
abbrev cc2_scratch2 : Ref sig .tc := ⟨.vmem, 45, rfl⟩
abbrev cc2_scratch3 : Ref sig .tc := ⟨.vmem, 46, rfl⟩
abbrev cc2_scratch4 : Ref sig .tc := ⟨.vmem, 47, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28
abbrev cc2_sem0_0 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem5_1 : DmaSem sig := 36
abbrev cc2_sem6_0 : DmaSem sig := 37
abbrev cc2_sem6_1 : DmaSem sig := 38
abbrev cc2_sem7_0 : DmaSem sig := 39
abbrev cc2_sem7_1 : DmaSem sig := 40
abbrev cc2_sem8_0 : DmaSem sig := 41
abbrev cc2_sem9_0 : DmaSem sig := 42
abbrev cc2_sem9_1 : DmaSem sig := 43
abbrev cc2_sem10_0 : DmaSem sig := 44
abbrev cc2_sem10_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

@[reducible] def k2_t1_loop : Scf.Loop 32 :=
  let c0_i32_45 : BitVec 32 := 0#32
  let c32_i32 : BitVec 32 := 32#32
  let v75 : BitVec 32 := Scalar.addi c0_i32_45 c32_i32
  let c1_i32 : BitVec 32 := 1#32
  ⟨c0_i32_45, v75, c1_i32⟩
@[reducible] def k2_t2_loop : Scf.Loop 32 :=
  let c0_i32_170 : BitVec 32 := 0#32
  let c32_i32_171 : BitVec 32 := 32#32
  let v270 : BitVec 32 := Scalar.addi c0_i32_170 c32_i32_171
  let c1_i32_172 : BitVec 32 := 1#32
  ⟨c0_i32_170, v270, c1_i32_172⟩
@[reducible] def k2_t3_loop : Scf.Loop 32 :=
  let c0_i32_295 : BitVec 32 := 0#32
  let c32_i32_296 : BitVec 32 := 32#32
  let v465 : BitVec 32 := Scalar.addi c0_i32_295 c32_i32_296
  let c1_i32_297 : BitVec 32 := 1#32
  ⟨c0_i32_295, v465, c1_i32_297⟩
@[reducible] def k2_t4_loop : Scf.Loop 32 :=
  let c0_i32_420 : BitVec 32 := 0#32
  let c32_i32_421 : BitVec 32 := 32#32
  let v660 : BitVec 32 := Scalar.addi c0_i32_420 c32_i32_421
  let c1_i32_422 : BitVec 32 := 1#32
  ⟨c0_i32_420, v660, c1_i32_422⟩
def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 1 → Memref sig .tc .smem S4 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1024x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S256x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S16x256x32 .i32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== ReferenceIdeal.lean ====
abbrev S1x2048x1024 : Shape := ⟨3, ![1, 2048, 1024]⟩
abbrev S1x1x2048x2048 : Shape := ⟨4, ![1, 1, 2048, 2048]⟩
abbrev S1024 : Shape := ⟨1, ![1024]⟩
abbrev S1024x1024 : Shape := ⟨2, ![1024, 1024]⟩
abbrev S1024x64 : Shape := ⟨2, ![1024, 64]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x2048x64 : Shape := ⟨3, ![1, 2048, 64]⟩
abbrev S1x2048x2048 : Shape := ⟨3, ![1, 2048, 2048]⟩
abbrev S1x16x2048x2048 : Shape := ⟨4, ![1, 16, 2048, 2048]⟩
abbrev S1x16x2048x32 : Shape := ⟨4, ![1, 16, 2048, 32]⟩
abbrev S1x16x2048 : Shape := ⟨3, ![1, 16, 2048]⟩
abbrev S1x16x2048x1 : Shape := ⟨4, ![1, 16, 2048, 1]⟩
abbrev S1x16x1x2048x64 : Shape := ⟨5, ![1, 16, 1, 2048, 64]⟩
abbrev S1x16x2048x32x1 : Shape := ⟨5, ![1, 16, 2048, 32, 1]⟩
abbrev S16x2048x32x1 : Shape := ⟨4, ![16, 2048, 32, 1]⟩
abbrev S1 : Shape := ⟨1, ![1]⟩
abbrev S1x1x1x1 : Shape := ⟨4, ![1, 1, 1, 1]⟩
abbrev S16x2048x32 : Shape := ⟨3, ![16, 2048, 32]⟩
abbrev S1x16x2048x32x64 : Shape := ⟨5, ![1, 16, 2048, 32, 64]⟩
abbrev S1x2048x4096 : Shape := ⟨3, ![1, 2048, 4096]⟩
abbrev S1x1x4096 : Shape := ⟨3, ![1, 1, 4096]⟩

abbrev nBuf : Space → Nat
  | .hbm => 151
  | .vmem => 0
  | .smem => 0
  | _ => 0

abbrev hbmTy0_0 (i : Nat) : BufTy := match i % 128 with
  | 0 => ⟨S1x2048x1024, .f32⟩
  | 1 => ⟨S1x1x2048x2048, .f32⟩
  | 2 => ⟨S1024, .f32⟩
  | 3 => ⟨S1024x1024, .f32⟩
  | 4 => ⟨S1024x1024, .f32⟩
  | 5 => ⟨S1024x1024, .f32⟩
  | 6 => ⟨S1024x1024, .f32⟩
  | 7 => ⟨S1024x64, .f32⟩
  | 8 => ⟨S1024x4096, .f32⟩
  | 9 => ⟨S4096, .f32⟩
  | 10 => ⟨S4096x1024, .f32⟩
  | 11 => ⟨S1024, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S1x2048x1024, .f32⟩
  | 23 => ⟨S1x2048x1024, .f32⟩
  | 24 => ⟨S1x2048x1024, .f32⟩
  | 25 => ⟨S_, .f32⟩
  | 26 => ⟨S1x2048, .f32⟩
  | 27 => ⟨S1x2048x1, .f32⟩
  | 28 => ⟨S_, .f32⟩
  | 29 => ⟨S1x2048x1, .f32⟩
  | 30 => ⟨S1x2048x1, .f32⟩
  | 31 => ⟨S_, .f32⟩
  | 32 => ⟨S1x2048x1, .f32⟩
  | 33 => ⟨S1x2048x1, .f32⟩
  | 34 => ⟨S1x2048x1, .f32⟩
  | 35 => ⟨S1x2048x1024, .f32⟩
  | 36 => ⟨S1x2048x1024, .f32⟩
  | 37 => ⟨S1x1x1024, .f32⟩
  | 38 => ⟨S1x2048x1024, .f32⟩
  | 39 => ⟨S1x2048x1024, .f32⟩
  | 40 => ⟨S1x2048x1024, .f32⟩
  | 41 => ⟨S1x2048x16x64, .f32⟩
  | 42 => ⟨S1x16x2048x64, .f32⟩
  | 43 => ⟨S1x2048x1024, .f32⟩
  | 44 => ⟨S1x2048x16x64, .f32⟩
  | 45 => ⟨S1x16x2048x64, .f32⟩
  | 46 => ⟨S1x2048x1024, .f32⟩
  | 47 => ⟨S1x2048x16x64, .f32⟩
  | 48 => ⟨S1x16x2048x64, .f32⟩
  | 49 => ⟨S1x2048x64, .f32⟩
  | 50 => ⟨S1x2048x2048, .f32⟩
  | 51 => ⟨S_, .f32⟩
  | 52 => ⟨S1x2048x2048, .f32⟩
  | 53 => ⟨S1x2048x2048, .f32⟩
  | 54 => ⟨S1x16x2048x2048, .f32⟩
  | 55 => ⟨S_, .f32⟩
  | 56 => ⟨S1x16x2048x2048, .f32⟩
  | 57 => ⟨S1x16x2048x2048, .f32⟩
  | 58 => ⟨S1x16x2048x2048, .f32⟩
  | 59 => ⟨S1x16x2048x2048, .f32⟩
  | 60 => ⟨S1x1x2048x2048, .f32⟩
  | 61 => ⟨S1x16x2048x2048, .f32⟩
  | 62 => ⟨S1x16x2048x2048, .f32⟩
  | 63 => ⟨S1x16x2048x32, .f32⟩
  | 64 => ⟨S1x16x2048x32, .i32⟩
  | 65 => ⟨S_, .f32⟩
  | 66 => ⟨S1x16x2048, .f32⟩
  | 67 => ⟨S_, .f32⟩
  | 68 => ⟨S1x16x2048, .f32⟩
  | 69 => ⟨S1x16x2048, .f32⟩
  | 70 => ⟨S1x16x2048x1, .f32⟩
  | 71 => ⟨S1x16x2048x32, .f32⟩
  | 72 => ⟨S1x16x2048x32, .f32⟩
  | 73 => ⟨S1x16x2048x32, .f32⟩
  | 74 => ⟨S_, .f32⟩
  | 75 => ⟨S1x16x2048, .f32⟩
  | 76 => ⟨S1x16x2048x1, .f32⟩
  | 77 => ⟨S1x16x2048x32, .f32⟩
  | 78 => ⟨S1x16x2048x32, .f32⟩
  | 79 => ⟨S1x16x1x2048x64, .f32⟩
  | 80 => ⟨S1x16x2048x32x1, .i32⟩
  | 81 => ⟨S_, .i32⟩
  | 82 => ⟨S1x16x2048x32x1, .i32⟩
  | 83 => ⟨S1x16x2048x32x1, .i1⟩
  | 84 => ⟨S_, .i32⟩
  | 85 => ⟨S1x16x2048x32x1, .i32⟩
  | 86 => ⟨S1x16x2048x32x1, .i32⟩
  | 87 => ⟨S1x16x2048x32x1, .i32⟩
  | 88 => ⟨S16x2048x32x1, .i32⟩
  | 89 => ⟨S1x16x2048x64, .f32⟩
  | 90 => ⟨S1, .i32⟩
  | 91 => ⟨S_, .i32⟩
  | 92 => ⟨S16x2048x32x1, .i32⟩
  | 93 => ⟨S16x2048x32x1, .i1⟩
  | 94 => ⟨S1x1x1x1, .i32⟩
  | 95 => ⟨S16x2048x32x1, .i32⟩
  | 96 => ⟨S16x2048x32x1, .i1⟩
  | 97 => ⟨S16x2048x32x1, .i1⟩
  | 98 => ⟨S_, .i1⟩
  | 99 => ⟨S16x2048x32, .i1⟩
  | 100 => ⟨S1x16x2048x32x64, .f32⟩
  | 101 => ⟨S1x16x2048x32x64, .i1⟩
  | 102 => ⟨S_, .f32⟩
  | 103 => ⟨S1x16x2048x32x64, .f32⟩
  | 104 => ⟨S1x16x2048x32x64, .f32⟩
  | 105 => ⟨S1x16x2048x64, .f32⟩
  | 106 => ⟨S1x2048x16x64, .f32⟩
  | 107 => ⟨S1x2048x1024, .f32⟩
  | 108 => ⟨S1x2048x1024, .f32⟩
  | 109 => ⟨S1x2048x4096, .f32⟩
  | 110 => ⟨S1x1x4096, .f32⟩
  | 111 => ⟨S1x2048x4096, .f32⟩
  | 112 => ⟨S1x2048x4096, .f32⟩
  | 113 => ⟨S1x2048x4096, .f32⟩
  | 114 => ⟨S1x2048x4096, .f32⟩
  | 115 => ⟨S_, .f32⟩
  | 116 => ⟨S1x2048x4096, .f32⟩
  | 117 => ⟨S1x2048x4096, .f32⟩
  | 118 => ⟨S1x2048x4096, .f32⟩
  | 119 => ⟨S_, .f32⟩
  | 120 => ⟨S1x2048x4096, .f32⟩
  | 121 => ⟨S1x2048x4096, .f32⟩
  | 122 => ⟨S1x2048x4096, .f32⟩
  | 123 => ⟨S_, .f32⟩
  | 124 => ⟨S1x2048x4096, .f32⟩
  | 125 => ⟨S1x2048x4096, .f32⟩
  | 126 => ⟨S_, .f32⟩
  | 127 => ⟨S1x2048x4096, .f32⟩
  | _ => ⟨S1x2048x1024, .f32⟩

abbrev hbmTy0_1 (i : Nat) : BufTy := match i % 128 with
  | 0 => ⟨S1x2048x4096, .f32⟩
  | 1 => ⟨S1x2048x4096, .f32⟩
  | 2 => ⟨S1x2048x1024, .f32⟩
  | 3 => ⟨S1x1x1024, .f32⟩
  | 4 => ⟨S1x2048x1024, .f32⟩
  | 5 => ⟨S1x2048x1024, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x2048x1024, .f32⟩
  | 13 => ⟨S1x2048x1024, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1x2048x1024, .f32⟩
  | 21 => ⟨S1x2048x1024, .f32⟩
  | 22 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_values : Ref sig .tc := ⟨.hbm, 63, rfl⟩
abbrev main_indices : Ref sig .tc := ⟨.hbm, 64, rfl⟩
abbrev main_cst_6 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call0_c : Ref sig .tc := ⟨.hbm, 81, rfl⟩
abbrev main_call0_v0 : Ref sig .tc := ⟨.hbm, 82, rfl⟩
abbrev main_call0_v1 : Ref sig .tc := ⟨.hbm, 83, rfl⟩
abbrev main_call0_c_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_c_1 : Ref sig .tc := ⟨.hbm, 90, rfl⟩
abbrev main_call0_c_2 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_v12 : Ref sig .tc := ⟨.hbm, 97, rfl⟩
abbrev main_call0_c_3 : Ref sig .tc := ⟨.hbm, 98, rfl⟩
abbrev main_call0_v13 : Ref sig .tc := ⟨.hbm, 99, rfl⟩
abbrev main_call0_v14 : Ref sig .tc := ⟨.hbm, 100, rfl⟩
abbrev main_call0_v15 : Ref sig .tc := ⟨.hbm, 101, rfl⟩
abbrev main_call0_cst : Ref sig .tc := ⟨.hbm, 102, rfl⟩
abbrev main_call0_v16 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_9 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_10 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_11 : Ref sig .tc := ⟨.hbm, 123, rfl⟩
abbrev main_v70 : Ref sig .tc := ⟨.hbm, 124, rfl⟩
abbrev main_v71 : Ref sig .tc := ⟨.hbm, 125, rfl⟩
abbrev main_cst_12 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_13 : Ref sig .tc := ⟨.hbm, 136, rfl⟩
abbrev main_v81 : Ref sig .tc := ⟨.hbm, 137, rfl⟩
abbrev main_cst_14 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_15 : Ref sig .tc := ⟨.hbm, 144, rfl⟩
abbrev main_v87 : Ref sig .tc := ⟨.hbm, 145, rfl⟩
abbrev main_cst_16 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩

abbrev nD : Nat := 1
abbrev τ : Topo := Topo.v7x

variable {F : FTy → Type} [FloatOps F]
-- ==== Proof.Trip.lean ====
module

public import proofs.«01_k».proof.Proof.Gen.KernelIdeal.Loops
public import Idealize.ShloMosaic.Lib.VecWindow

/-! The attention kernel's four counted loops: what a trip does to a head's working scores and to its row of
positions, and what the loop leaves after any number of trips. -/

@[expose] public section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

noncomputable section

variable {F : FTy → Type} [FloatOps F]

/-- Per row, the first column holding the row's largest working score. -/
def SEL (v8 : IVec S256x2048 32) (sw : Vec F S256x2048 .f32) : IVec S256x1 32 := k2_pay2 v8 sw

/-- The working scores with that column lowered. -/
def MASK (v8 : IVec S256x2048 32) (sw : Vec F S256x2048 .f32) : Vec F S256x2048 .f32 := k2_pay3 v8 sw

/-- The loop's counter at trip `t`. -/
def IV (t : ℕ) : BitVec 32 := Scf.iv 0#32 1#32 t

/-- The carried positions with column `iv` set. -/
def STEPI (v9 : IVec S256x32 32) (iv : BitVec 32) (sel : IVec S256x1 32) (acc : IVec S256x32 32) : IVec S256x32 32 :=
  select (cmpi .eq v9 (broadcast S256x32 iv))
    (broadcastTo S256x32 (shapeCast S256x1 sel shapeCasts_S256x1_S256x1) broadcasts_S256x1_S256x32) acc

/-- The working scores after `t` trips. -/
def SW (v8 : IVec S256x2048 32) (s : Vec F S256x2048 .f32) : ℕ → Vec F S256x2048 .f32
  | 0 => s
  | t + 1 => MASK v8 (SW v8 s t)

/-- The carried positions after `t` trips. -/
def IX (v8 : IVec S256x2048 32) (v9 : IVec S256x32 32) (s : Vec F S256x2048 .f32) (a : IVec S256x32 32) : ℕ → IVec S256x32 32
  | 0 => a
  | t + 1 => STEPI v9 (IV t) (SEL v8 (SW v8 s t)) (IX v8 v9 s a t)

/-- What a load of the whole working memref reads. -/
abbrev rdA (arg : Memref sig .tc .vmem S256x2048 .f32) (f : BufTy.Contents (Elt F) arg.view.ty) : Vec F S256x2048 .f32 :=
  View.readAt (Elt F) arg.view (Rect.unit (s := S256x2048) ![0, 0] ![256, 2048] inb_S256x2048_S256x2048_0_0).toLoadRect f

/-- A store of the whole working memref, as a list of pieces. -/
abbrev PC (p : Vec F S256x2048 .f32) : List (View.Piece (Elt F) S256x2048 .f32) :=
  [⟨Rect.unit (s := S256x2048) ![0, 0] ![256, 2048] inb_S256x2048_S256x2048_0_0, p⟩]

theorem rdA_cons (arg : Memref sig .tc .vmem S256x2048 .f32) (f : BufTy.Contents (Elt F) arg.view.ty)
    (p : Vec F S256x2048 .f32) (l : List (View.Piece (Elt F) S256x2048 .f32)) :
    rdA arg (arg.view.writes (Elt F) f (PC p ++ l)) = p :=
  View.readAt_writes_full (s := S256x2048) arg.view f inb_S256x2048_S256x2048_0_0 inb_S256x2048_S256x2048_0_0 p l

section Loop1

variable (𝒱 : Variants) (c : Dev nD) (bd : Option 𝒱.V) (i : grid2.Coords) (arg1 : Memref sig .tc .smem S4 .f32) (harg1 : arg1.IsWhole) (arg2 : Memref sig .tc .vmem S256x1024 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S256x64 .f32) (harg6 : arg6.IsWhole) (arg7 : Memref sig .tc .vmem S256x2048 .f32) (harg7 : arg7.IsWhole) (arg8 : Memref sig .tc .vmem S256x1024 .f32) (harg8 : arg8.IsWhole) (arg9 : Memref sig .tc .vmem S1024x1024 .f32) (harg9 : arg9.IsWhole) (arg10 : Memref sig .tc .vmem S256x1024 .f32) (harg10 : arg10.IsWhole) (arg11 : Memref sig .tc .vmem S16x256x32 .i32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x1024 .f32) (harg16 : arg16.IsWhole) (v7 : FVec F S256x2048 .f32) (v8 : IVec S256x2048 32) (v9 : IVec S256x32 32) (v25 : FVec F S256x1 .f32) (v67 : FVec F S256x2048 .f32)

theorem trip1_R (k : Fin k2_t1_loop.trips) (acc : IVec S256x32 32 × IVec S256x32 32 × IVec S256x32 32 × IVec S256x32 32)
    (f12 : BufTy.Contents (Elt F) arg12.view.ty) (f13 : BufTy.Contents (Elt F) arg13.view.ty) (f14 : BufTy.Contents (Elt F) arg14.view.ty) (f15 : BufTy.Contents (Elt F) arg15.view.ty) :
    tripR_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 k acc f12 f13 f14 f15
      = (STEPI v9 (IV k) (SEL v8 (rdA arg12 f12)) acc.1, STEPI v9 (IV k) (SEL v8 (rdA arg13 f13)) acc.2.1,
        STEPI v9 (IV k) (SEL v8 (rdA arg14 f14)) acc.2.2.1, STEPI v9 (IV k) (SEL v8 (rdA arg15 f15)) acc.2.2.2) := by
  unfold tripR_k2_t1 trip_k2_t1
  rfl

theorem trip1_L (k : Fin k2_t1_loop.trips) (acc : IVec S256x32 32 × IVec S256x32 32 × IVec S256x32 32 × IVec S256x32 32)
    (f12 : BufTy.Contents (Elt F) arg12.view.ty) (f13 : BufTy.Contents (Elt F) arg13.view.ty) (f14 : BufTy.Contents (Elt F) arg14.view.ty) (f15 : BufTy.Contents (Elt F) arg15.view.ty) :
    tripL_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 k acc f12 f13 f14 f15
      = (PC (MASK v8 (rdA arg12 f12)), PC (MASK v8 (rdA arg13 f13)), PC (MASK v8 (rdA arg14 f14)), PC (MASK v8 (rdA arg15 f15))) := by
  unfold tripL_k2_t1 trip_k2_t1
  rfl

theorem st1_succ (f12 : BufTy.Contents (Elt F) arg12.view.ty) (f13 : BufTy.Contents (Elt F) arg13.view.ty) (f14 : BufTy.Contents (Elt F) arg14.view.ty) (f15 : BufTy.Contents (Elt F) arg15.view.ty) (acc : IVec S256x32 32 × IVec S256x32 32 × IVec S256x32 32 × IVec S256x32 32) (k : Fin k2_t1_loop.trips)
    (S : (IVec S256x32 32 × IVec S256x32 32 × IVec S256x32 32 × IVec S256x32 32) × List (View.Piece (Elt F) S256x2048 .f32)
      × List (View.Piece (Elt F) S256x2048 .f32) × List (View.Piece (Elt F) S256x2048 .f32) × List (View.Piece (Elt F) S256x2048 .f32))
    (hS : st_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 f12 f13 f14 f15 acc k.val = S) :
    st_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 f12 f13 f14 f15 acc (k.val + 1)
      = ((STEPI v9 (IV k) (SEL v8 (rdA arg12 (arg12.view.writes (Elt F) f12 S.2.1))) S.1.1,
          STEPI v9 (IV k) (SEL v8 (rdA arg13 (arg13.view.writes (Elt F) f13 S.2.2.1))) S.1.2.1,
          STEPI v9 (IV k) (SEL v8 (rdA arg14 (arg14.view.writes (Elt F) f14 S.2.2.2.1))) S.1.2.2.1,
          STEPI v9 (IV k) (SEL v8 (rdA arg15 (arg15.view.writes (Elt F) f15 S.2.2.2.2))) S.1.2.2.2),
        PC (MASK v8 (rdA arg12 (arg12.view.writes (Elt F) f12 S.2.1))) ++ S.2.1,
        PC (MASK v8 (rdA arg13 (arg13.view.writes (Elt F) f13 S.2.2.1))) ++ S.2.2.1,
        PC (MASK v8 (rdA arg14 (arg14.view.writes (Elt F) f14 S.2.2.2.1))) ++ S.2.2.2.1,
        PC (MASK v8 (rdA arg15 (arg15.view.writes (Elt F) f15 S.2.2.2.2))) ++ S.2.2.2.2) := by
  rw [st_k2_t1_succ, trip1_R, trip1_L, hS]

/-- After `t` trips: the carried positions and, per head, what the working memref reads. -/
theorem loop1 (f12 : BufTy.Contents (Elt F) arg12.view.ty) (f13 : BufTy.Contents (Elt F) arg13.view.ty) (f14 : BufTy.Contents (Elt F) arg14.view.ty) (f15 : BufTy.Contents (Elt F) arg15.view.ty) (acc : IVec S256x32 32 × IVec S256x32 32 × IVec S256x32 32 × IVec S256x32 32) (t : ℕ) (ht : t ≤ 32) :
    (st_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 f12 f13 f14 f15 acc t).1
      = (IX v8 v9 (rdA arg12 f12) acc.1 t, IX v8 v9 (rdA arg13 f13) acc.2.1 t, IX v8 v9 (rdA arg14 f14) acc.2.2.1 t,
          IX v8 v9 (rdA arg15 f15) acc.2.2.2 t)
    ∧ rdA arg12 (arg12.view.writes (Elt F) f12 (st_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 f12 f13 f14 f15 acc t).2.1) = SW v8 (rdA arg12 f12) t
    ∧ rdA arg13 (arg13.view.writes (Elt F) f13 (st_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 f12 f13 f14 f15 acc t).2.2.1) = SW v8 (rdA arg13 f13) t
    ∧ rdA arg14 (arg14.view.writes (Elt F) f14 (st_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 f12 f13 f14 f15 acc t).2.2.2.1) = SW v8 (rdA arg14 f14) t
    ∧ rdA arg15 (arg15.view.writes (Elt F) f15 (st_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 f12 f13 f14 f15 acc t).2.2.2.2) = SW v8 (rdA arg15 f15) t := by
  induction t with
  | zero => exact ⟨rfl, rfl, rfl, rfl, rfl⟩
  | succ t ih =>
    obtain ⟨h1, h2, h3, h4, h5⟩ := ih (by omega)
    have hk : t < k2_t1_loop.trips := lt_of_lt_of_le (Nat.lt_of_succ_le ht) (by decide)
    have e := st1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v25 v67 f12 f13 f14 f15 acc ⟨t, hk⟩ _ rfl
    dsimp only at e
    rw [h1, h2, h3, h4, h5] at e
    rw [e]
    exact ⟨rfl, rdA_cons _ _ _ _, rdA_cons _ _ _ _, rdA_cons _ _ _ _, rdA_cons _ _ _ _⟩

end Loop1

section Loop2

variable (𝒱 : Variants) (c : Dev nD) (bd : Option 𝒱.V) (i : grid2.Coords) (arg1 : Memref sig .tc .smem S4 .f32) (harg1 : arg1.IsWhole) (arg2 : Memref sig .tc .vmem S256x1024 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S256x64 .f32) (harg6 : arg6.IsWhole) (arg7 : Memref sig .tc .vmem S256x2048 .f32) (harg7 : arg7.IsWhole) (arg8 : Memref sig .tc .vmem S256x1024 .f32) (harg8 : arg8.IsWhole) (arg9 : Memref sig .tc .vmem S1024x1024 .f32) (harg9 : arg9.IsWhole) (arg10 : Memref sig .tc .vmem S256x1024 .f32) (harg10 : arg10.IsWhole) (arg11 : Memref sig .tc .vmem S16x256x32 .i32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x1024 .f32) (harg16 : arg16.IsWhole) (v7 : FVec F S256x2048 .f32) (v8 : IVec S256x2048 32) (v9 : IVec S256x32 32) (v238 : FVec F S256x64 .f32)

theorem trip2_R (k : Fin k2_t2_loop.trips) (acc : IVec S256x32 32 × IVec S256x32 32 × IVec S256x32 32 × IVec S256x32 32)
    (f12 : BufTy.Contents (Elt F) arg12.view.ty) (f13 : BufTy.Contents (Elt F) arg13.view.ty) (f14 : BufTy.Contents (Elt F) arg14.view.ty) (f15 : BufTy.Contents (Elt F) arg15.view.ty) :
    tripR_k2_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 k acc f12 f13 f14 f15
      = (STEPI v9 (IV k) (SEL v8 (rdA arg12 f12)) acc.1, STEPI v9 (IV k) (SEL v8 (rdA arg13 f13)) acc.2.1,
        STEPI v9 (IV k) (SEL v8 (rdA arg14 f14)) acc.2.2.1, STEPI v9 (IV k) (SEL v8 (rdA arg15 f15)) acc.2.2.2) := by
  unfold tripR_k2_t2 trip_k2_t2
  rfl

theorem trip2_L (k : Fin k2_t2_loop.trips) (acc : IVec S256x32 32 × IVec S256x32 32 × IVec S256x32 32 × IVec S256x32 32)
    (f12 : BufTy.Contents (Elt F) arg12.view.ty) (f13 : BufTy.Contents (Elt F) arg13.view.ty) (f14 : BufTy.Contents (Elt F) arg14.view.ty) (f15 : BufTy.Contents (Elt F) arg15.view.ty) :
    tripL_k2_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 k acc f12 f13 f14 f15
      = (PC (MASK v8 (rdA arg12 f12)), PC (MASK v8 (rdA arg13 f13)), PC (MASK v8 (rdA arg14 f14)), PC (MASK v8 (rdA arg15 f15))) := by
  unfold tripL_k2_t2 trip_k2_t2
  rfl

theorem st2_succ (f12 : BufTy.Contents (Elt F) arg12.view.ty) (f13 : BufTy.Contents (Elt F) arg13.view.ty) (f14 : BufTy.Contents (Elt F) arg14.view.ty) (f15 : BufTy.Contents (Elt F) arg15.view.ty) (acc : IVec S256x32 32 × IVec S256x32 32 × IVec S256x32 32 × IVec S256x32 32) (k : Fin k2_t2_loop.trips)
    (S : (IVec S256x32 32 × IVec S256x32 32 × IVec S256x32 32 × IVec S256x32 32) × List (View.Piece (Elt F) S256x2048 .f32)
      × List (View.Piece (Elt F) S256x2048 .f32) × List (View.Piece (Elt F) S256x2048 .f32) × List (View.Piece (Elt F) S256x2048 .f32))
    (hS : st_k2_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 f12 f13 f14 f15 acc k.val = S) :
    st_k2_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 f12 f13 f14 f15 acc (k.val + 1)
      = ((STEPI v9 (IV k) (SEL v8 (rdA arg12 (arg12.view.writes (Elt F) f12 S.2.1))) S.1.1,
          STEPI v9 (IV k) (SEL v8 (rdA arg13 (arg13.view.writes (Elt F) f13 S.2.2.1))) S.1.2.1,
          STEPI v9 (IV k) (SEL v8 (rdA arg14 (arg14.view.writes (Elt F) f14 S.2.2.2.1))) S.1.2.2.1,
          STEPI v9 (IV k) (SEL v8 (rdA arg15 (arg15.view.writes (Elt F) f15 S.2.2.2.2))) S.1.2.2.2),
        PC (MASK v8 (rdA arg12 (arg12.view.writes (Elt F) f12 S.2.1))) ++ S.2.1,
        PC (MASK v8 (rdA arg13 (arg13.view.writes (Elt F) f13 S.2.2.1))) ++ S.2.2.1,
        PC (MASK v8 (rdA arg14 (arg14.view.writes (Elt F) f14 S.2.2.2.1))) ++ S.2.2.2.1,
        PC (MASK v8 (rdA arg15 (arg15.view.writes (Elt F) f15 S.2.2.2.2))) ++ S.2.2.2.2) := by
  rw [st_k2_t2_succ, trip2_R, trip2_L, hS]

/-- After `t` trips: the carried positions and, per head, what the working memref reads. -/
theorem loop2 (f12 : BufTy.Contents (Elt F) arg12.view.ty) (f13 : BufTy.Contents (Elt F) arg13.view.ty) (f14 : BufTy.Contents (Elt F) arg14.view.ty) (f15 : BufTy.Contents (Elt F) arg15.view.ty) (acc : IVec S256x32 32 × IVec S256x32 32 × IVec S256x32 32 × IVec S256x32 32) (t : ℕ) (ht : t ≤ 32) :
    (st_k2_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 f12 f13 f14 f15 acc t).1
      = (IX v8 v9 (rdA arg12 f12) acc.1 t, IX v8 v9 (rdA arg13 f13) acc.2.1 t, IX v8 v9 (rdA arg14 f14) acc.2.2.1 t,
          IX v8 v9 (rdA arg15 f15) acc.2.2.2 t)
    ∧ rdA arg12 (arg12.view.writes (Elt F) f12 (st_k2_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 f12 f13 f14 f15 acc t).2.1) = SW v8 (rdA arg12 f12) t
    ∧ rdA arg13 (arg13.view.writes (Elt F) f13 (st_k2_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 f12 f13 f14 f15 acc t).2.2.1) = SW v8 (rdA arg13 f13) t
    ∧ rdA arg14 (arg14.view.writes (Elt F) f14 (st_k2_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 f12 f13 f14 f15 acc t).2.2.2.1) = SW v8 (rdA arg14 f14) t
    ∧ rdA arg15 (arg15.view.writes (Elt F) f15 (st_k2_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 f12 f13 f14 f15 acc t).2.2.2.2) = SW v8 (rdA arg15 f15) t := by
  induction t with
  | zero => exact ⟨rfl, rfl, rfl, rfl, rfl⟩
  | succ t ih =>
    obtain ⟨h1, h2, h3, h4, h5⟩ := ih (by omega)
    have hk : t < k2_t2_loop.trips := lt_of_lt_of_le (Nat.lt_of_succ_le ht) (by decide)
    have e := st2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v238 f12 f13 f14 f15 acc ⟨t, hk⟩ _ rfl
    dsimp only at e
    rw [h1, h2, h3, h4, h5] at e
    rw [e]
    exact ⟨rfl, rdA_cons _ _ _ _, rdA_cons _ _ _ _, rdA_cons _ _ _ _, rdA_cons _ _ _ _⟩

end Loop2

section Loop3

variable (𝒱 : Variants) (c : Dev nD) (bd : Option 𝒱.V) (i : grid2.Coords) (arg1 : Memref sig .tc .smem S4 .f32) (harg1 : arg1.IsWhole) (arg2 : Memref sig .tc .vmem S256x1024 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S256x64 .f32) (harg6 : arg6.IsWhole) (arg7 : Memref sig .tc .vmem S256x2048 .f32) (harg7 : arg7.IsWhole) (arg8 : Memref sig .tc .vmem S256x1024 .f32) (harg8 : arg8.IsWhole) (arg9 : Memref sig .tc .vmem S1024x1024 .f32) (harg9 : arg9.IsWhole) (arg10 : Memref sig .tc .vmem S256x1024 .f32) (harg10 : arg10.IsWhole) (arg11 : Memref sig .tc .vmem S16x256x32 .i32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x1024 .f32) (harg16 : arg16.IsWhole) (v7 : FVec F S256x2048 .f32) (v8 : IVec S256x2048 32) (v9 : IVec S256x32 32) (v442 : FVec F S256x2048 .f32)

theorem trip3_R (k : Fin k2_t3_loop.trips) (acc : IVec S256x32 32 × IVec S256x32 32 × IVec S256x32 32 × IVec S256x32 32)
    (f12 : BufTy.Contents (Elt F) arg12.view.ty) (f13 : BufTy.Contents (Elt F) arg13.view.ty) (f14 : BufTy.Contents (Elt F) arg14.view.ty) (f15 : BufTy.Contents (Elt F) arg15.view.ty) :
    tripR_k2_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 k acc f12 f13 f14 f15
      = (STEPI v9 (IV k) (SEL v8 (rdA arg12 f12)) acc.1, STEPI v9 (IV k) (SEL v8 (rdA arg13 f13)) acc.2.1,
        STEPI v9 (IV k) (SEL v8 (rdA arg14 f14)) acc.2.2.1, STEPI v9 (IV k) (SEL v8 (rdA arg15 f15)) acc.2.2.2) := by
  unfold tripR_k2_t3 trip_k2_t3
  rfl

theorem trip3_L (k : Fin k2_t3_loop.trips) (acc : IVec S256x32 32 × IVec S256x32 32 × IVec S256x32 32 × IVec S256x32 32)
    (f12 : BufTy.Contents (Elt F) arg12.view.ty) (f13 : BufTy.Contents (Elt F) arg13.view.ty) (f14 : BufTy.Contents (Elt F) arg14.view.ty) (f15 : BufTy.Contents (Elt F) arg15.view.ty) :
    tripL_k2_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 k acc f12 f13 f14 f15
      = (PC (MASK v8 (rdA arg12 f12)), PC (MASK v8 (rdA arg13 f13)), PC (MASK v8 (rdA arg14 f14)), PC (MASK v8 (rdA arg15 f15))) := by
  unfold tripL_k2_t3 trip_k2_t3
  rfl

theorem st3_succ (f12 : BufTy.Contents (Elt F) arg12.view.ty) (f13 : BufTy.Contents (Elt F) arg13.view.ty) (f14 : BufTy.Contents (Elt F) arg14.view.ty) (f15 : BufTy.Contents (Elt F) arg15.view.ty) (acc : IVec S256x32 32 × IVec S256x32 32 × IVec S256x32 32 × IVec S256x32 32) (k : Fin k2_t3_loop.trips)
    (S : (IVec S256x32 32 × IVec S256x32 32 × IVec S256x32 32 × IVec S256x32 32) × List (View.Piece (Elt F) S256x2048 .f32)
      × List (View.Piece (Elt F) S256x2048 .f32) × List (View.Piece (Elt F) S256x2048 .f32) × List (View.Piece (Elt F) S256x2048 .f32))
    (hS : st_k2_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 f12 f13 f14 f15 acc k.val = S) :
    st_k2_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 f12 f13 f14 f15 acc (k.val + 1)
      = ((STEPI v9 (IV k) (SEL v8 (rdA arg12 (arg12.view.writes (Elt F) f12 S.2.1))) S.1.1,
          STEPI v9 (IV k) (SEL v8 (rdA arg13 (arg13.view.writes (Elt F) f13 S.2.2.1))) S.1.2.1,
          STEPI v9 (IV k) (SEL v8 (rdA arg14 (arg14.view.writes (Elt F) f14 S.2.2.2.1))) S.1.2.2.1,
          STEPI v9 (IV k) (SEL v8 (rdA arg15 (arg15.view.writes (Elt F) f15 S.2.2.2.2))) S.1.2.2.2),
        PC (MASK v8 (rdA arg12 (arg12.view.writes (Elt F) f12 S.2.1))) ++ S.2.1,
        PC (MASK v8 (rdA arg13 (arg13.view.writes (Elt F) f13 S.2.2.1))) ++ S.2.2.1,
        PC (MASK v8 (rdA arg14 (arg14.view.writes (Elt F) f14 S.2.2.2.1))) ++ S.2.2.2.1,
        PC (MASK v8 (rdA arg15 (arg15.view.writes (Elt F) f15 S.2.2.2.2))) ++ S.2.2.2.2) := by
  rw [st_k2_t3_succ, trip3_R, trip3_L, hS]

/-- After `t` trips: the carried positions and, per head, what the working memref reads. -/
theorem loop3 (f12 : BufTy.Contents (Elt F) arg12.view.ty) (f13 : BufTy.Contents (Elt F) arg13.view.ty) (f14 : BufTy.Contents (Elt F) arg14.view.ty) (f15 : BufTy.Contents (Elt F) arg15.view.ty) (acc : IVec S256x32 32 × IVec S256x32 32 × IVec S256x32 32 × IVec S256x32 32) (t : ℕ) (ht : t ≤ 32) :
    (st_k2_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 f12 f13 f14 f15 acc t).1
      = (IX v8 v9 (rdA arg12 f12) acc.1 t, IX v8 v9 (rdA arg13 f13) acc.2.1 t, IX v8 v9 (rdA arg14 f14) acc.2.2.1 t,
          IX v8 v9 (rdA arg15 f15) acc.2.2.2 t)
    ∧ rdA arg12 (arg12.view.writes (Elt F) f12 (st_k2_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 f12 f13 f14 f15 acc t).2.1) = SW v8 (rdA arg12 f12) t
    ∧ rdA arg13 (arg13.view.writes (Elt F) f13 (st_k2_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 f12 f13 f14 f15 acc t).2.2.1) = SW v8 (rdA arg13 f13) t
    ∧ rdA arg14 (arg14.view.writes (Elt F) f14 (st_k2_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 f12 f13 f14 f15 acc t).2.2.2.1) = SW v8 (rdA arg14 f14) t
    ∧ rdA arg15 (arg15.view.writes (Elt F) f15 (st_k2_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 f12 f13 f14 f15 acc t).2.2.2.2) = SW v8 (rdA arg15 f15) t := by
  induction t with
  | zero => exact ⟨rfl, rfl, rfl, rfl, rfl⟩
  | succ t ih =>
    obtain ⟨h1, h2, h3, h4, h5⟩ := ih (by omega)
    have hk : t < k2_t3_loop.trips := lt_of_lt_of_le (Nat.lt_of_succ_le ht) (by decide)
    have e := st3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v442 f12 f13 f14 f15 acc ⟨t, hk⟩ _ rfl
    dsimp only at e
    rw [h1, h2, h3, h4, h5] at e
    rw [e]
    exact ⟨rfl, rdA_cons _ _ _ _, rdA_cons _ _ _ _, rdA_cons _ _ _ _, rdA_cons _ _ _ _⟩

end Loop3

section Loop4

variable (𝒱 : Variants) (c : Dev nD) (bd : Option 𝒱.V) (i : grid2.Coords) (arg1 : Memref sig .tc .smem S4 .f32) (harg1 : arg1.IsWhole) (arg2 : Memref sig .tc .vmem S256x1024 .f32) (harg2 : arg2.IsWhole) (arg3 : Memref sig .tc .vmem S2048x1024 .f32) (harg3 : arg3.IsWhole) (arg4 : Memref sig .tc .vmem S2048x1024 .f32) (harg4 : arg4.IsWhole) (arg5 : Memref sig .tc .vmem S2048x64 .f32) (harg5 : arg5.IsWhole) (arg6 : Memref sig .tc .vmem S256x64 .f32) (harg6 : arg6.IsWhole) (arg7 : Memref sig .tc .vmem S256x2048 .f32) (harg7 : arg7.IsWhole) (arg8 : Memref sig .tc .vmem S256x1024 .f32) (harg8 : arg8.IsWhole) (arg9 : Memref sig .tc .vmem S1024x1024 .f32) (harg9 : arg9.IsWhole) (arg10 : Memref sig .tc .vmem S256x1024 .f32) (harg10 : arg10.IsWhole) (arg11 : Memref sig .tc .vmem S16x256x32 .i32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x1024 .f32) (harg16 : arg16.IsWhole) (v7 : FVec F S256x2048 .f32) (v8 : IVec S256x2048 32) (v9 : IVec S256x32 32) (v610 : FVec F S256x1 .f32) (v652 : FVec F S256x2048 .f32)

theorem trip4_R (k : Fin k2_t4_loop.trips) (acc : IVec S256x32 32 × IVec S256x32 32 × IVec S256x32 32 × IVec S256x32 32)
    (f12 : BufTy.Contents (Elt F) arg12.view.ty) (f13 : BufTy.Contents (Elt F) arg13.view.ty) (f14 : BufTy.Contents (Elt F) arg14.view.ty) (f15 : BufTy.Contents (Elt F) arg15.view.ty) :
    tripR_k2_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 k acc f12 f13 f14 f15
      = (STEPI v9 (IV k) (SEL v8 (rdA arg12 f12)) acc.1, STEPI v9 (IV k) (SEL v8 (rdA arg13 f13)) acc.2.1,
        STEPI v9 (IV k) (SEL v8 (rdA arg14 f14)) acc.2.2.1, STEPI v9 (IV k) (SEL v8 (rdA arg15 f15)) acc.2.2.2) := by
  unfold tripR_k2_t4 trip_k2_t4
  rfl

theorem trip4_L (k : Fin k2_t4_loop.trips) (acc : IVec S256x32 32 × IVec S256x32 32 × IVec S256x32 32 × IVec S256x32 32)
    (f12 : BufTy.Contents (Elt F) arg12.view.ty) (f13 : BufTy.Contents (Elt F) arg13.view.ty) (f14 : BufTy.Contents (Elt F) arg14.view.ty) (f15 : BufTy.Contents (Elt F) arg15.view.ty) :
    tripL_k2_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 k acc f12 f13 f14 f15
      = (PC (MASK v8 (rdA arg12 f12)), PC (MASK v8 (rdA arg13 f13)), PC (MASK v8 (rdA arg14 f14)), PC (MASK v8 (rdA arg15 f15))) := by
  unfold tripL_k2_t4 trip_k2_t4
  rfl

theorem st4_succ (f12 : BufTy.Contents (Elt F) arg12.view.ty) (f13 : BufTy.Contents (Elt F) arg13.view.ty) (f14 : BufTy.Contents (Elt F) arg14.view.ty) (f15 : BufTy.Contents (Elt F) arg15.view.ty) (acc : IVec S256x32 32 × IVec S256x32 32 × IVec S256x32 32 × IVec S256x32 32) (k : Fin k2_t4_loop.trips)
    (S : (IVec S256x32 32 × IVec S256x32 32 × IVec S256x32 32 × IVec S256x32 32) × List (View.Piece (Elt F) S256x2048 .f32)
      × List (View.Piece (Elt F) S256x2048 .f32) × List (View.Piece (Elt F) S256x2048 .f32) × List (View.Piece (Elt F) S256x2048 .f32))
    (hS : st_k2_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 f12 f13 f14 f15 acc k.val = S) :
    st_k2_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 f12 f13 f14 f15 acc (k.val + 1)
      = ((STEPI v9 (IV k) (SEL v8 (rdA arg12 (arg12.view.writes (Elt F) f12 S.2.1))) S.1.1,
          STEPI v9 (IV k) (SEL v8 (rdA arg13 (arg13.view.writes (Elt F) f13 S.2.2.1))) S.1.2.1,
          STEPI v9 (IV k) (SEL v8 (rdA arg14 (arg14.view.writes (Elt F) f14 S.2.2.2.1))) S.1.2.2.1,
          STEPI v9 (IV k) (SEL v8 (rdA arg15 (arg15.view.writes (Elt F) f15 S.2.2.2.2))) S.1.2.2.2),
        PC (MASK v8 (rdA arg12 (arg12.view.writes (Elt F) f12 S.2.1))) ++ S.2.1,
        PC (MASK v8 (rdA arg13 (arg13.view.writes (Elt F) f13 S.2.2.1))) ++ S.2.2.1,
        PC (MASK v8 (rdA arg14 (arg14.view.writes (Elt F) f14 S.2.2.2.1))) ++ S.2.2.2.1,
        PC (MASK v8 (rdA arg15 (arg15.view.writes (Elt F) f15 S.2.2.2.2))) ++ S.2.2.2.2) := by
  rw [st_k2_t4_succ, trip4_R, trip4_L, hS]

/-- After `t` trips: the carried positions and, per head, what the working memref reads. -/
theorem loop4 (f12 : BufTy.Contents (Elt F) arg12.view.ty) (f13 : BufTy.Contents (Elt F) arg13.view.ty) (f14 : BufTy.Contents (Elt F) arg14.view.ty) (f15 : BufTy.Contents (Elt F) arg15.view.ty) (acc : IVec S256x32 32 × IVec S256x32 32 × IVec S256x32 32 × IVec S256x32 32) (t : ℕ) (ht : t ≤ 32) :
    (st_k2_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 f12 f13 f14 f15 acc t).1
      = (IX v8 v9 (rdA arg12 f12) acc.1 t, IX v8 v9 (rdA arg13 f13) acc.2.1 t, IX v8 v9 (rdA arg14 f14) acc.2.2.1 t,
          IX v8 v9 (rdA arg15 f15) acc.2.2.2 t)
    ∧ rdA arg12 (arg12.view.writes (Elt F) f12 (st_k2_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 f12 f13 f14 f15 acc t).2.1) = SW v8 (rdA arg12 f12) t
    ∧ rdA arg13 (arg13.view.writes (Elt F) f13 (st_k2_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 f12 f13 f14 f15 acc t).2.2.1) = SW v8 (rdA arg13 f13) t
    ∧ rdA arg14 (arg14.view.writes (Elt F) f14 (st_k2_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 f12 f13 f14 f15 acc t).2.2.2.1) = SW v8 (rdA arg14 f14) t
    ∧ rdA arg15 (arg15.view.writes (Elt F) f15 (st_k2_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 f12 f13 f14 f15 acc t).2.2.2.2) = SW v8 (rdA arg15 f15) t := by
  induction t with
  | zero => exact ⟨rfl, rfl, rfl, rfl, rfl⟩
  | succ t ih =>
    obtain ⟨h1, h2, h3, h4, h5⟩ := ih (by omega)
    have hk : t < k2_t4_loop.trips := lt_of_lt_of_le (Nat.lt_of_succ_le ht) (by decide)
    have e := st4_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 v8 v9 v610 v652 f12 f13 f14 f15 acc ⟨t, hk⟩ _ rfl
    dsimp only at e
    rw [h1, h2, h3, h4, h5] at e
    rw [e]
    exact ⟨rfl, rdA_cons _ _ _ _, rdA_cons _ _ _ _, rdA_cons _ _ _ _, rdA_cons _ _ _ _⟩

end Loop4

end

end Cert.KernelIdeal.Attn
-- ==== Proof.AttnRun.lean ====
module

public import proofs.«01_k».proof.Proof.Gen.KernelIdeal.Frame
public import proofs.«01_k».proof.Proof.Trip
public import Idealize.ShloMosaic.Lib.Pipeline.Value
public import Idealize.ShloMosaic.Lib.VecWindow

/-! What one run of the attention kernel's body leaves in its two output blocks, head by head. -/

@[expose] public section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

noncomputable section

variable {F : FTy → Type} [FloatOps F]

/-- A head's scores: its scaled products, the bias and the shared term. -/
def SC (a : FVec F S256x2048 .f32) (q : Vec F S256x64 .f32) (k : Vec F S2048x64 .f32) (b : Vec F S256x2048 .f32) :
    FVec F S256x2048 .f32 := k2_pay70 a q k b

/-- A row's largest score. -/
def MX (s : FVec F S256x2048 .f32) : FVec F S256x1 .f32 := k2_pay121 s

/-- A head's output: the chosen columns' weights, their sum, and the weighted values over it. -/
def AT (a : FVec F S256x2048 .f32) (q : Vec F S256x64 .f32) (k : Vec F S2048x64 .f32) (b : Vec F S256x2048 .f32)
    (v : Vec F S2048x64 .f32) : FVec F S256x64 .f32 :=
  k2_pay92 a (MX (SC a q k b)) (SW kernelRun2_A.sl.v8 (SC a q k b) 32) q k b v

theorem inbQ (h : Fin 16) : ∀ a, (![0, 64 * h.val] : Fin 2 → ℕ) a + S256x64.size a ≤ S256x1024.size a := by
  intro a; have := h.isLt; fin_cases a
  · show 0 + 256 ≤ 256; omega
  · show 64 * h.val + 64 ≤ 1024; omega

theorem inbK (h : Fin 16) : ∀ a, (![0, 64 * h.val] : Fin 2 → ℕ) a + S2048x64.size a ≤ S2048x1024.size a := by
  intro a; have := h.isLt; fin_cases a
  · show 0 + 2048 ≤ 2048; omega
  · show 64 * h.val + 64 ≤ 1024; omega

/-- Head `h`'s columns of a block of 256 rows. -/
def QH (x : Vec F S256x1024 .f32) (h : Fin 16) : Vec F S256x64 .f32 :=
  View.ld x (Rect.unit (s := S256x1024) ![0, 64 * h.val] S256x64.size (inbQ h))

/-- Head `h`'s columns of all 2048 rows. -/
def KH (x : Vec F S2048x1024 .f32) (h : Fin 16) : Vec F S2048x64 .f32 :=
  View.ld x (Rect.unit (s := S2048x1024) ![0, 64 * h.val] S2048x64.size (inbK h))

/-- Head `h`'s scores from the blocks. -/
def SCH (x1 : Vec F S256x1024 .f32) (x2 : Vec F S2048x1024 .f32) (x4 : Vec F S2048x64 .f32) (x5 : Vec F S256x64 .f32)
    (x6 : Vec F S256x2048 .f32) (h : Fin 16) : FVec F S256x2048 .f32 := SC (k2_pay62 x5 x4) (QH x1 h) (KH x2 h) x6

/-- Head `h`'s output from the blocks. -/
def ATH (x1 : Vec F S256x1024 .f32) (x2 x3 : Vec F S2048x1024 .f32) (x4 : Vec F S2048x64 .f32) (x5 : Vec F S256x64 .f32)
    (x6 : Vec F S256x2048 .f32) (h : Fin 16) : FVec F S256x64 .f32 :=
  AT (k2_pay62 x5 x4) (QH x1 h) (KH x2 h) x6 (KH x3 h)

theorem rdE {s : Shape} {e : EltTy} {sp : Space} (arg : Memref sig .tc sp s e) (harg : arg.IsWhole)
    (x : s.Idx → Elt F e) (R : Rect s) : arg.view.readAt (Elt F) R.toLoadRect (harg.unread x) = View.ld x R := by
  rw [View.readAt_eq_ld, harg.read_unread]

theorem offz : (![0, 0] : Fin 2 → ℕ) = fun _ => 0 := by
  funext a; fin_cases a <;> rfl

theorem sc_congr {a a' : FVec F S256x2048 .f32} {q q' : Vec F S256x64 .f32} {k k' : Vec F S2048x64 .f32}
    {b b' : Vec F S256x2048 .f32} (h1 : a = a') (h2 : q = q') (h3 : k = k') (h4 : b = b') :
    SC a q k b = SC a' q' k' b' := by subst h1 h2 h3 h4; rfl

theorem at_congr {a a' : FVec F S256x2048 .f32} {q q' : Vec F S256x64 .f32} {k k' : Vec F S2048x64 .f32}
    {b b' : Vec F S256x2048 .f32} {v v' : Vec F S2048x64 .f32} (h1 : a = a') (h2 : q = q') (h3 : k = k') (h4 : b = b')
    (h5 : v = v') : AT a q k b v = AT a' q' k' b' v' := by subst h1 h2 h3 h4 h5; rfl

theorem rdCov (arg : Memref sig .tc .vmem S256x2048 .f32) (L1 L0 : List (View.Piece (Elt F) S256x2048 .f32)) {T : ℕ}
    {v8 : IVec S256x2048 32} {s p : Vec F S256x2048 .f32} {l : List (View.Piece (Elt F) S256x2048 .f32)}
    (h : rdA arg (arg.view.writes (Elt F) (arg.view.writes (Elt F) arg.view.junk L0) L1)
      = SW v8 (rdA arg (arg.view.writes (Elt F) arg.view.junk L0)) T)
    (hT : T = 32) (hL : L0 = (⟨Rect.unit ![0, 0] S256x2048.size inb_S256x2048_S256x2048_0_0, p⟩ : View.Piece (Elt F) S256x2048 .f32) :: l)
    (hp : p = s) :
    arg.view.readCov (L1 ++ L0) (Rect.unit (s := S256x2048) ![0, 0] S256x2048.size inb_S256x2048_S256x2048_0_0).toLoadRect = SW v8 s 32 := by
  subst hT hp hL
  have e : arg.view.readCov (L1 ++ (⟨Rect.unit ![0, 0] S256x2048.size inb_S256x2048_S256x2048_0_0, p⟩ : View.Piece (Elt F) S256x2048 .f32) :: l)
      (Rect.unit (s := S256x2048) ![0, 0] S256x2048.size inb_S256x2048_S256x2048_0_0).toLoadRect
      = rdA arg (arg.view.writes (Elt F) (arg.view.writes (Elt F) arg.view.junk ((⟨Rect.unit ![0, 0] S256x2048.size inb_S256x2048_S256x2048_0_0, p⟩ : View.Piece (Elt F) S256x2048 .f32) :: l)) L1) := by
    unfold View.readCov rdA; rw [View.writes_append]
  exact e.trans (h.trans (congrArg (fun z => SW v8 z 32) (rdA_cons arg _ p l)))

theorem ixCov (arg : Memref sig .tc .vmem S256x2048 .f32) (L0 : List (View.Piece (Elt F) S256x2048 .f32)) {T : ℕ}
    {v8 : IVec S256x2048 32} {v9 : IVec S256x32 32} {a x : IVec S256x32 32} {s p : Vec F S256x2048 .f32}
    {l : List (View.Piece (Elt F) S256x2048 .f32)}
    (h : x = IX v8 v9 (rdA arg (arg.view.writes (Elt F) arg.view.junk L0)) a T)
    (hT : T = 32) (hL : L0 = (⟨Rect.unit ![0, 0] S256x2048.size inb_S256x2048_S256x2048_0_0, p⟩ : View.Piece (Elt F) S256x2048 .f32) :: l)
    (hp : p = s) : x = IX v8 v9 s a 32 := by
  subst hT hp hL
  exact h.trans (congrArg (fun z => IX v8 v9 z a 32) (rdA_cons arg _ p l))

section Quad
variable {A : Type} {X : A × A × A × A} {β : Type} {Y : (A × A × A × A) × β} {a b c d : A}
theorem pr1 (h : Y.1 = (a, b, c, d)) : Y.1.1 = a := by rw [h]
theorem pr2 (h : Y.1 = (a, b, c, d)) : Y.1.2.1 = b := by rw [h]
theorem pr3 (h : Y.1 = (a, b, c, d)) : Y.1.2.2.1 = c := by rw [h]
theorem pr4 (h : Y.1 = (a, b, c, d)) : Y.1.2.2.2 = d := by rw [h]
end Quad

theorem trips1 : Scf.trips k2_t1_loop.lb k2_t1_loop.ub k2_t1_loop.st = 32 := by decide
theorem trips2 : Scf.trips k2_t2_loop.lb k2_t2_loop.ub k2_t2_loop.st = 32 := by decide
theorem trips3 : Scf.trips k2_t3_loop.lb k2_t3_loop.ub k2_t3_loop.st = 32 := by decide
theorem trips4 : Scf.trips k2_t4_loop.lb k2_t4_loop.ub k2_t4_loop.st = 32 := by decide

section Forms
variable (a : FVec F S256x2048 .f32) (m : FVec F S256x1 .f32) (sw : Vec F S256x2048 .f32) (q : Vec F S256x64 .f32)
  (k : Vec F S2048x64 .f32) (b : Vec F S256x2048 .f32) (v : Vec F S2048x64 .f32)
theorem form0 (hm : m = MX (SC a q k b)) (hs : sw = SW kernelRun2_A.sl.v8 (SC a q k b) 32) :
    k2_pay82 (k2_pay80 a m sw q k b) (k2_pay81 a m sw q k b) v = AT a q k b v := by
  subst hm hs
  rfl
theorem form1 (hm : m = MX (SC a q k b)) (hs : sw = SW kernelRun2_A.sl.v8 (SC a q k b) 32) :
    k2_pay87 (k2_pay85 a m sw q k b) (k2_pay86 a m sw q k b v) = AT a q k b v := by
  subst hm hs
  rfl
theorem form2 (hm : m = MX (SC a q k b)) (hs : sw = SW kernelRun2_A.sl.v8 (SC a q k b) 32) :
    k2_pay90 (k2_pay89 a m sw q k b v) = AT a q k b v := by
  subst hm hs
  rfl
theorem form3 (hm : m = MX (SC a q k b)) (hs : sw = SW kernelRun2_A.sl.v8 (SC a q k b) 32) :
    k2_pay92 a m sw q k b v = AT a q k b v := by
  subst hm hs
  rfl
theorem form4 (hm : m = MX (SC a q k b)) (hs : sw = SW kernelRun2_A.sl.v8 (SC a q k b) 32) :
    k2_pay109 a m sw q k b v = AT a q k b v := by
  subst hm hs
  rfl
theorem form5 (hm : m = MX (SC a q k b)) (hs : sw = SW kernelRun2_A.sl.v8 (SC a q k b) 32) :
    k2_pay111 a m sw q k b v = AT a q k b v := by
  subst hm hs
  rfl
theorem form6 (hm : m = MX (SC a q k b)) (hs : sw = SW kernelRun2_A.sl.v8 (SC a q k b) 32) :
    k2_pay114 a m sw k2_pay113 q k b v = AT a q k b v := by
  subst hm hs
  rfl
theorem form7 (hm : m = MX (SC a q k b)) (hs : sw = SW kernelRun2_A.sl.v8 (SC a q k b) 32) :
    k2_pay118 a m (k2_pay116 sw) (k2_pay117 q) k b v = AT a q k b v := by
  subst hm hs
  rfl
theorem form8 (hm : m = MX (SC a q k b)) (hs : sw = SW kernelRun2_A.sl.v8 (SC a q k b) 32) :
    k2_pay137 a m (k2_pay134 sw) (k2_pay135 q) (k2_pay136 k) kernelRun2_A.sl.cst_308 b v = AT a q k b v := by
  subst hm hs
  rfl
theorem form9 (hm : m = MX (SC a q k b)) (hs : sw = SW kernelRun2_A.sl.v8 (SC a q k b) 32) :
    k2_pay141 a m (k2_pay139 sw) (k2_pay140 q k) b v = AT a q k b v := by
  subst hm hs
  rfl
theorem form10 (hm : m = MX (SC a q k b)) (hs : sw = SW kernelRun2_A.sl.v8 (SC a q k b) 32) :
    k2_pay145 m (k2_pay143 sw) (k2_pay144 a q k b) v = AT a q k b v := by
  subst hm hs
  rfl
theorem form11 (hm : m = MX (SC a q k b)) (hs : sw = SW kernelRun2_A.sl.v8 (SC a q k b) 32) :
    k2_pay150 (k2_pay147 sw) (k2_pay148 a m q k b) k2_pay149 v = AT a q k b v := by
  subst hm hs
  rfl
theorem form12 (hm : m = MX (SC a q k b)) (hs : sw = SW kernelRun2_A.sl.v8 (SC a q k b) 32) :
    k2_pay170 (k2_pay168 a m sw q k b) (k2_pay169 a m sw q k b) v = AT a q k b v := by
  subst hm hs
  rfl
theorem form13 (hm : m = MX (SC a q k b)) (hs : sw = SW kernelRun2_A.sl.v8 (SC a q k b) 32) :
    k2_pay175 (k2_pay173 a m sw q k b) (k2_pay174 a m sw q k b v) = AT a q k b v := by
  subst hm hs
  rfl
theorem form14 (hm : m = MX (SC a q k b)) (hs : sw = SW kernelRun2_A.sl.v8 (SC a q k b) 32) :
    k2_pay178 (k2_pay177 a m sw q k b v) = AT a q k b v := by
  subst hm hs
  rfl
theorem form15 (hm : m = MX (SC a q k b)) (hs : sw = SW kernelRun2_A.sl.v8 (SC a q k b) 32) :
    k2_pay180 a m sw q k b v = AT a q k b v := by
  subst hm hs
  rfl
end Forms

variable {c : Dev nD} {i : grid2.Coords} {arg1 : Memref sig .tc .smem S4 .f32} {harg1 : arg1.IsWhole} {arg2 : Memref sig .tc .vmem S256x1024 .f32} {harg2 : arg2.IsWhole} {arg3 : Memref sig .tc .vmem S2048x1024 .f32} {harg3 : arg3.IsWhole} {arg4 : Memref sig .tc .vmem S2048x1024 .f32} {harg4 : arg4.IsWhole} {arg5 : Memref sig .tc .vmem S2048x64 .f32} {harg5 : arg5.IsWhole} {arg6 : Memref sig .tc .vmem S256x64 .f32} {harg6 : arg6.IsWhole} {arg7 : Memref sig .tc .vmem S256x2048 .f32} {harg7 : arg7.IsWhole} {arg8 : Memref sig .tc .vmem S256x1024 .f32} {harg8 : arg8.IsWhole} {arg9 : Memref sig .tc .vmem S1024x1024 .f32} {harg9 : arg9.IsWhole} {arg10 : Memref sig .tc .vmem S256x1024 .f32} {harg10 : arg10.IsWhole} {arg11 : Memref sig .tc .vmem S16x256x32 .i32} {harg11 : arg11.IsWhole} {arg12 : Memref sig .tc .vmem S256x2048 .f32} {harg12 : arg12.IsWhole} {arg13 : Memref sig .tc .vmem S256x2048 .f32} {harg13 : arg13.IsWhole} {arg14 : Memref sig .tc .vmem S256x2048 .f32} {harg14 : arg14.IsWhole} {arg15 : Memref sig .tc .vmem S256x2048 .f32} {harg15 : arg15.IsWhole} {arg16 : Memref sig .tc .vmem S256x1024 .f32} {harg16 : arg16.IsWhole}
    {x0 : Vec F S4 .f32} {x1 : Vec F S256x1024 .f32} {x2 : Vec F S2048x1024 .f32} {x3 : Vec F S2048x1024 .f32} {x4 : Vec F S2048x64 .f32} {x5 : Vec F S256x64 .f32} {x6 : Vec F S256x2048 .f32} {x7 : Vec F S256x1024 .f32} {x8 : Vec F S1024x1024 .f32}

theorem r1E : (kernelRun2_A.sl.r_1 c arg5 harg5 arg6 harg6 x4 x5) = k2_pay62 x5 x4 := by
  unfold kernelRun2_A.sl.r_1
  rw [rdE, rdE, View.ld_unit_zero offz, View.ld_unit_zero offz]

theorem rdB : (arg7.view.readAt (Elt F) (Rect.unit (s := S256x2048) ![0, 0] S256x2048.size inb_S256x2048_S256x2048_0_0).toLoadRect (harg7.unread x6)) = x6 := by
  rw [rdE, View.ld_unit_zero offz]

theorem mx0 : (kernelRun2_A.sl.r_2 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 0] S256x64.size inb_S256x1024_S256x64_0_0).toLoadRect (harg2.unread x1)) (arg3.view.readAt (Elt F) (Rect.unit (s := S2048x1024) ![0, 0] S2048x64.size inb_S2048x1024_S2048x64_0_0).toLoadRect (harg3.unread x2)) (arg7.view.readAt (Elt F) (Rect.unit (s := S256x2048) ![0, 0] S256x2048.size inb_S256x2048_S256x2048_0_0).toLoadRect (harg7.unread x6))) := rfl

theorem sw0 : (kernelRun2_A.sl.v80 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 0] S256x64.size inb_S256x1024_S256x64_0_0).toLoadRect (harg2.unread x1)) (arg3.view.readAt (Elt F) (Rect.unit (s := S2048x1024) ![0, 0] S2048x64.size inb_S2048x1024_S2048x64_0_0).toLoadRect (harg3.unread x2)) (arg7.view.readAt (Elt F) (Rect.unit (s := S256x2048) ![0, 0] S256x2048.size inb_S256x2048_S256x2048_0_0).toLoadRect (harg7.unread x6))) 32 :=
  rdCov arg12 _ _ (loop1 (ht := (trips1).le) ..).2.1 trips1 rfl (shapeCast_self _ _)

theorem scE0 : (SC (kernelRun2_A.sl.r_1 c arg5 harg5 arg6 harg6 x4 x5) (arg2.view.readAt (Elt F) (Rect.unit (s := S256x1024) ![0, 0] S256x64.size inb_S256x1024_S256x64_0_0).toLoadRect (harg2.unread x1)) (arg3.view.readAt (Elt F) (Rect.unit (s := S2048x1024) ![0, 0] S2048x64.size inb_S2048x1024_S2048x64_0_0).toLoadRect (harg3.unread x2)) (arg7.view.readAt (Elt F) (Rect.unit (s := S256x2048) ![0, 0] S256x2048.size inb_S256x2048_S256x2048_0_0).toLoadRect (harg7.unread x6))) = SCH x1 x2 x4 x5 x6 0 :=
  sc_congr r1E (rdE _ _ _ _) (rdE _ _ _ _) rdB

theorem head0 : k2_pay82 (kernelRun2_A.sl.r_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (kernelRun2_A.sl.r_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (arg4.view.readAt (Elt F) (Rect.unit (s := S2048x1024) ![0, 0] S2048x64.size inb_S2048x1024_S2048x64_0_0).toLoadRect (harg4.unread x3)) = ATH x1 x2 x3 x4 x5 x6 0 :=
  (form0 _ _ _ _ _ _ _ mx0 sw0).trans (at_congr r1E (rdE _ _ _ _) (rdE _ _ _ _) rdB (rdE _ _ _ _))

theorem mx1 : (kernelRun2_A.sl.r_4 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 64] S256x64.size inb_S256x1024_S256x64_0_64).toLoadRect (harg2.unread x1)) (arg3.view.readAt (Elt F) (Rect.unit (s := S2048x1024) ![0, 64] S2048x64.size inb_S2048x1024_S2048x64_0_64).toLoadRect (harg3.unread x2)) (arg7.view.readAt (Elt F) (Rect.unit (s := S256x2048) ![0, 0] S256x2048.size inb_S256x2048_S256x2048_0_0).toLoadRect (harg7.unread x6))) := rfl

theorem sw1 : (kernelRun2_A.sl.v112 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 64] S256x64.size inb_S256x1024_S256x64_0_64).toLoadRect (harg2.unread x1)) (arg3.view.readAt (Elt F) (Rect.unit (s := S2048x1024) ![0, 64] S2048x64.size inb_S2048x1024_S2048x64_0_64).toLoadRect (harg3.unread x2)) (arg7.view.readAt (Elt F) (Rect.unit (s := S256x2048) ![0, 0] S256x2048.size inb_S256x2048_S256x2048_0_0).toLoadRect (harg7.unread x6))) 32 :=
  rdCov arg13 _ _ (loop1 (ht := (trips1).le) ..).2.2.1 trips1 rfl (shapeCast_self _ _)

theorem ixE1 : (kernelRun2_A.sl.r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 64] S256x64.size inb_S256x1024_S256x64_0_64).toLoadRect (harg2.unread x1)) (arg3.view.readAt (Elt F) (Rect.unit (s := S2048x1024) ![0, 64] S2048x64.size inb_S2048x1024_S2048x64_0_64).toLoadRect (harg3.unread x2)) (arg7.view.readAt (Elt F) (Rect.unit (s := S256x2048) ![0, 0] S256x2048.size inb_S256x2048_S256x2048_0_0).toLoadRect (harg7.unread x6))) k2_pay77 32 := by
  unfold kernelRun2_A.sl.r_8
  exact ixCov arg13 _ (pr2 (loop1 (ht := (trips1).le) ..).1) trips1 rfl (shapeCast_self _ _)

theorem scE1 : (SC (kernelRun2_A.sl.r_1 c arg5 harg5 arg6 harg6 x4 x5) (arg2.view.readAt (Elt F) (Rect.unit (s := S256x1024) ![0, 64] S256x64.size inb_S256x1024_S256x64_0_64).toLoadRect (harg2.unread x1)) (arg3.view.readAt (Elt F) (Rect.unit (s := S2048x1024) ![0, 64] S2048x64.size inb_S2048x1024_S2048x64_0_64).toLoadRect (harg3.unread x2)) (arg7.view.readAt (Elt F) (Rect.unit (s := S256x2048) ![0, 0] S256x2048.size inb_S256x2048_S256x2048_0_0).toLoadRect (harg7.unread x6))) = SCH x1 x2 x4 x5 x6 1 :=
  sc_congr r1E (rdE _ _ _ _) (rdE _ _ _ _) rdB

theorem head1 : k2_pay87 (kernelRun2_A.sl.r_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (kernelRun2_A.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6) = ATH x1 x2 x3 x4 x5 x6 1 :=
  (form1 _ _ _ _ _ _ _ mx1 sw1).trans (at_congr r1E (rdE _ _ _ _) (rdE _ _ _ _) rdB (rdE _ _ _ _))

theorem mx2 : (kernelRun2_A.sl.r_5 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 128] S256x64.size inb_S256x1024_S256x64_0_128).toLoadRect (harg2.unread x1)) (arg3.view.readAt (Elt F) (Rect.unit (s := S2048x1024) ![0, 128] S2048x64.size inb_S2048x1024_S2048x64_0_128).toLoadRect (harg3.unread x2)) (arg7.view.readAt (Elt F) (Rect.unit (s := S256x2048) ![0, 0] S256x2048.size inb_S256x2048_S256x2048_0_0).toLoadRect (harg7.unread x6))) := rfl

theorem sw2 : (kernelRun2_A.sl.v144 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 128] S256x64.size inb_S256x1024_S256x64_0_128).toLoadRect (harg2.unread x1)) (arg3.view.readAt (Elt F) (Rect.unit (s := S2048x1024) ![0, 128] S2048x64.size inb_S2048x1024_S2048x64_0_128).toLoadRect (harg3.unread x2)) (arg7.view.readAt (Elt F) (Rect.unit (s := S256x2048) ![0, 0] S256x2048.size inb_S256x2048_S256x2048_0_0).toLoadRect (harg7.unread x6))) 32 :=
  rdCov arg14 _ _ (loop1 (ht := (trips1).le) ..).2.2.2.1 trips1 rfl (shapeCast_self _ _)

theorem ixE2 : (kernelRun2_A.sl.r_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 128] S256x64.size inb_S256x1024_S256x64_0_128).toLoadRect (harg2.unread x1)) (arg3.view.readAt (Elt F) (Rect.unit (s := S2048x1024) ![0, 128] S2048x64.size inb_S2048x1024_S2048x64_0_128).toLoadRect (harg3.unread x2)) (arg7.view.readAt (Elt F) (Rect.unit (s := S256x2048) ![0, 0] S256x2048.size inb_S256x2048_S256x2048_0_0).toLoadRect (harg7.unread x6))) k2_pay77 32 := by
  unfold kernelRun2_A.sl.r_9
  exact ixCov arg14 _ (pr3 (loop1 (ht := (trips1).le) ..).1) trips1 rfl (shapeCast_self _ _)

theorem scE2 : (SC (kernelRun2_A.sl.r_1 c arg5 harg5 arg6 harg6 x4 x5) (arg2.view.readAt (Elt F) (Rect.unit (s := S256x1024) ![0, 128] S256x64.size inb_S256x1024_S256x64_0_128).toLoadRect (harg2.unread x1)) (arg3.view.readAt (Elt F) (Rect.unit (s := S2048x1024) ![0, 128] S2048x64.size inb_S2048x1024_S2048x64_0_128).toLoadRect (harg3.unread x2)) (arg7.view.readAt (Elt F) (Rect.unit (s := S256x2048) ![0, 0] S256x2048.size inb_S256x2048_S256x2048_0_0).toLoadRect (harg7.unread x6))) = SCH x1 x2 x4 x5 x6 2 :=
  sc_congr r1E (rdE _ _ _ _) (rdE _ _ _ _) rdB

theorem head2 : k2_pay90 (kernelRun2_A.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6) = ATH x1 x2 x3 x4 x5 x6 2 :=
  (form2 _ _ _ _ _ _ _ mx2 sw2).trans (at_congr r1E (rdE _ _ _ _) (rdE _ _ _ _) rdB (rdE _ _ _ _))

theorem mx3 : (kernelRun2_A.sl.r_7 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 192] S256x64.size inb_S256x1024_S256x64_0_192).toLoadRect (harg2.unread x1)) (arg3.view.readAt (Elt F) (Rect.unit (s := S2048x1024) ![0, 192] S2048x64.size inb_S2048x1024_S2048x64_0_192).toLoadRect (harg3.unread x2)) (arg7.view.readAt (Elt F) (Rect.unit (s := S256x2048) ![0, 0] S256x2048.size inb_S256x2048_S256x2048_0_0).toLoadRect (harg7.unread x6))) := rfl

theorem sw3 : (kernelRun2_A.sl.v176 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 192] S256x64.size inb_S256x1024_S256x64_0_192).toLoadRect (harg2.unread x1)) (arg3.view.readAt (Elt F) (Rect.unit (s := S2048x1024) ![0, 192] S2048x64.size inb_S2048x1024_S2048x64_0_192).toLoadRect (harg3.unread x2)) (arg7.view.readAt (Elt F) (Rect.unit (s := S256x2048) ![0, 0] S256x2048.size inb_S256x2048_S256x2048_0_0).toLoadRect (harg7.unread x6))) 32 :=
  rdCov arg15 _ _ (loop1 (ht := (trips1).le) ..).2.2.2.2 trips1 rfl (shapeCast_self _ _)

theorem ixE3 : (kernelRun2_A.sl.r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 192] S256x64.size inb_S256x1024_S256x64_0_192).toLoadRect (harg2.unread x1)) (arg3.view.readAt (Elt F) (Rect.unit (s := S2048x1024) ![0, 192] S2048x64.size inb_S2048x1024_S2048x64_0_192).toLoadRect (harg3.unread x2)) (arg7.view.readAt (Elt F) (Rect.unit (s := S256x2048) ![0, 0] S256x2048.size inb_S256x2048_S256x2048_0_0).toLoadRect (harg7.unread x6))) k2_pay77 32 := by
  unfold kernelRun2_A.sl.r_10
  exact ixCov arg15 _ (pr4 (loop1 (ht := (trips1).le) ..).1) trips1 rfl (shapeCast_self _ _)

theorem scE3 : (SC (kernelRun2_A.sl.r_1 c arg5 harg5 arg6 harg6 x4 x5) (arg2.view.readAt (Elt F) (Rect.unit (s := S256x1024) ![0, 192] S256x64.size inb_S256x1024_S256x64_0_192).toLoadRect (harg2.unread x1)) (arg3.view.readAt (Elt F) (Rect.unit (s := S2048x1024) ![0, 192] S2048x64.size inb_S2048x1024_S2048x64_0_192).toLoadRect (harg3.unread x2)) (arg7.view.readAt (Elt F) (Rect.unit (s := S256x2048) ![0, 0] S256x2048.size inb_S256x2048_S256x2048_0_0).toLoadRect (harg7.unread x6))) = SCH x1 x2 x4 x5 x6 3 :=
  sc_congr r1E (rdE _ _ _ _) (rdE _ _ _ _) rdB

theorem head3 : k2_pay92 (kernelRun2_A.sl.r_1 c arg5 harg5 arg6 harg6 x4 x5) (kernelRun2_A.sl.r_7 c arg2 harg2 arg3 harg3 arg5 harg5 arg6 harg6 arg7 harg7 x1 x2 x4 x5 x6) (kernelRun2_A.sl.v176 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (arg2.view.readAt (Elt F) (Rect.unit (s := S256x1024) ![0, 192] S256x64.size inb_S256x1024_S256x64_0_192).toLoadRect (harg2.unread x1)) (arg3.view.readAt (Elt F) (Rect.unit (s := S2048x1024) ![0, 192] S2048x64.size inb_S2048x1024_S2048x64_0_192).toLoadRect (harg3.unread x2)) (arg7.view.readAt (Elt F) (Rect.unit (s := S256x2048) ![0, 0] S256x2048.size inb_S256x2048_S256x2048_0_0).toLoadRect (harg7.unread x6)) (arg4.view.readAt (Elt F) (Rect.unit (s := S2048x1024) ![0, 192] S2048x64.size inb_S2048x1024_S2048x64_0_192).toLoadRect (harg4.unread x3)) = ATH x1 x2 x3 x4 x5 x6 3 :=
  (form3 _ _ _ _ _ _ _ mx3 sw3).trans (at_congr r1E (rdE _ _ _ _) (rdE _ _ _ _) rdB (rdE _ _ _ _))

theorem mx4 : (kernelRun2_A.sl.r_16 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 256] S256x64.size inb_S256x1024_S256x64_0_256).toLoadRect (harg2.unread x1)) (arg3.view.readAt (Elt F) (Rect.unit (s := S2048x1024) ![0, 256] S2048x64.size inb_S2048x1024_S2048x64_0_256).toLoadRect (harg3.unread x2)) (arg7.view.readAt (Elt F) (Rect.unit (s := S256x2048) ![0, 0] S256x2048.size inb_S256x2048_S256x2048_0_0).toLoadRect (harg7.unread x6))) := rfl

theorem sw4 : (kernelRun2_A.sl.v275 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 256] S256x64.size inb_S256x1024_S256x64_0_256).toLoadRect (harg2.unread x1)) (arg3.view.readAt (Elt F) (Rect.unit (s := S2048x1024) ![0, 256] S2048x64.size inb_S2048x1024_S2048x64_0_256).toLoadRect (harg3.unread x2)) (arg7.view.readAt (Elt F) (Rect.unit (s := S256x2048) ![0, 0] S256x2048.size inb_S256x2048_S256x2048_0_0).toLoadRect (harg7.unread x6))) 32 :=
  rdCov arg12 _ _ (loop2 (ht := (trips2).le) ..).2.1 trips2 rfl (shapeCast_self _ _)

theorem ixE4 : (kernelRun2_A.sl.r_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 256] S256x64.size inb_S256x1024_S256x64_0_256).toLoadRect (harg2.unread x1)) (arg3.view.readAt (Elt F) (Rect.unit (s := S2048x1024) ![0, 256] S2048x64.size inb_S2048x1024_S2048x64_0_256).toLoadRect (harg3.unread x2)) (arg7.view.readAt (Elt F) (Rect.unit (s := S256x2048) ![0, 0] S256x2048.size inb_S256x2048_S256x2048_0_0).toLoadRect (harg7.unread x6))) k2_pay106 32 := by
  unfold kernelRun2_A.sl.r_21
  exact ixCov arg12 _ (pr1 (loop2 (ht := (trips2).le) ..).1) trips2 rfl (shapeCast_self _ _)

theorem scE4 : (SC (kernelRun2_A.sl.r_1 c arg5 harg5 arg6 harg6 x4 x5) (arg2.view.readAt (Elt F) (Rect.unit (s := S256x1024) ![0, 256] S256x64.size inb_S256x1024_S256x64_0_256).toLoadRect (harg2.unread x1)) (arg3.view.readAt (Elt F) (Rect.unit (s := S2048x1024) ![0, 256] S2048x64.size inb_S2048x1024_S2048x64_0_256).toLoadRect (harg3.unread x2)) (arg7.view.readAt (Elt F) (Rect.unit (s := S256x2048) ![0, 0] S256x2048.size inb_S256x2048_S256x2048_0_0).toLoadRect (harg7.unread x6))) = SCH x1 x2 x4 x5 x6 4 :=
  sc_congr r1E (rdE _ _ _ _) (rdE _ _ _ _) rdB

theorem head4 : k2_pay109 (kernelRun2_A.sl.r_1 c arg5 harg5 arg6 harg6 x4 x5) (kernelRun2_A.sl.r_16 c arg2 harg2 arg3 harg3 arg5 harg5 arg6 harg6 arg7 harg7 x1 x2 x4 x5 x6) (kernelRun2_A.sl.v275 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (arg2.view.readAt (Elt F) (Rect.unit (s := S256x1024) ![0, 256] S256x64.size inb_S256x1024_S256x64_0_256).toLoadRect (harg2.unread x1)) (arg3.view.readAt (Elt F) (Rect.unit (s := S2048x1024) ![0, 256] S2048x64.size inb_S2048x1024_S2048x64_0_256).toLoadRect (harg3.unread x2)) (arg7.view.readAt (Elt F) (Rect.unit (s := S256x2048) ![0, 0] S256x2048.size inb_S256x2048_S256x2048_0_0).toLoadRect (harg7.unread x6)) (arg4.view.readAt (Elt F) (Rect.unit (s := S2048x1024) ![0, 256] S2048x64.size inb_S2048x1024_S2048x64_0_256).toLoadRect (harg4.unread x3)) = ATH x1 x2 x3 x4 x5 x6 4 :=
  (form4 _ _ _ _ _ _ _ mx4 sw4).trans (at_congr r1E (rdE _ _ _ _) (rdE _ _ _ _) rdB (rdE _ _ _ _))

theorem mx5 : (kernelRun2_A.sl.r_17 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 320] S256x64.size inb_S256x1024_S256x64_0_320).toLoadRect (harg2.unread x1)) (arg3.view.readAt (Elt F) (Rect.unit (s := S2048x1024) ![0, 320] S2048x64.size inb_S2048x1024_S2048x64_0_320).toLoadRect (harg3.unread x2)) (arg7.view.readAt (Elt F) (Rect.unit (s := S256x2048) ![0, 0] S256x2048.size inb_S256x2048_S256x2048_0_0).toLoadRect (harg7.unread x6))) := rfl

theorem sw5 : (kernelRun2_A.sl.v307 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 320] S256x64.size inb_S256x1024_S256x64_0_320).toLoadRect (harg2.unread x1)) (arg3.view.readAt (Elt F) (Rect.unit (s := S2048x1024) ![0, 320] S2048x64.size inb_S2048x1024_S2048x64_0_320).toLoadRect (harg3.unread x2)) (arg7.view.readAt (Elt F) (Rect.unit (s := S256x2048) ![0, 0] S256x2048.size inb_S256x2048_S256x2048_0_0).toLoadRect (harg7.unread x6))) 32 :=
  rdCov arg13 _ _ (loop2 (ht := (trips2).le) ..).2.2.1 trips2 rfl (shapeCast_self _ _)

theorem ixE5 : (kernelRun2_A.sl.r_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 320] S256x64.size inb_S256x1024_S256x64_0_320).toLoadRect (harg2.unread x1)) (arg3.view.readAt (Elt F) (Rect.unit (s := S2048x1024) ![0, 320] S2048x64.size inb_S2048x1024_S2048x64_0_320).toLoadRect (harg3.unread x2)) (arg7.view.readAt (Elt F) (Rect.unit (s := S256x2048) ![0, 0] S256x2048.size inb_S256x2048_S256x2048_0_0).toLoadRect (harg7.unread x6))) k2_pay106 32 := by
  unfold kernelRun2_A.sl.r_22
  exact ixCov arg13 _ (pr2 (loop2 (ht := (trips2).le) ..).1) trips2 rfl (shapeCast_self _ _)

theorem scE5 : (SC (kernelRun2_A.sl.r_1 c arg5 harg5 arg6 harg6 x4 x5) (arg2.view.readAt (Elt F) (Rect.unit (s := S256x1024) ![0, 320] S256x64.size inb_S256x1024_S256x64_0_320).toLoadRect (harg2.unread x1)) (arg3.view.readAt (Elt F) (Rect.unit (s := S2048x1024) ![0, 320] S2048x64.size inb_S2048x1024_S2048x64_0_320).toLoadRect (harg3.unread x2)) (arg7.view.readAt (Elt F) (Rect.unit (s := S256x2048) ![0, 0] S256x2048.size inb_S256x2048_S256x2048_0_0).toLoadRect (harg7.unread x6))) = SCH x1 x2 x4 x5 x6 5 :=
  sc_congr r1E (rdE _ _ _ _) (rdE _ _ _ _) rdB

theorem head5 : k2_pay111 (kernelRun2_A.sl.r_1 c arg5 harg5 arg6 harg6 x4 x5) (kernelRun2_A.sl.r_17 c arg2 harg2 arg3 harg3 arg5 harg5 arg6 harg6 arg7 harg7 x1 x2 x4 x5 x6) (kernelRun2_A.sl.v307 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (arg2.view.readAt (Elt F) (Rect.unit (s := S256x1024) ![0, 320] S256x64.size inb_S256x1024_S256x64_0_320).toLoadRect (harg2.unread x1)) (arg3.view.readAt (Elt F) (Rect.unit (s := S2048x1024) ![0, 320] S2048x64.size inb_S2048x1024_S2048x64_0_320).toLoadRect (harg3.unread x2)) (arg7.view.readAt (Elt F) (Rect.unit (s := S256x2048) ![0, 0] S256x2048.size inb_S256x2048_S256x2048_0_0).toLoadRect (harg7.unread x6)) (arg4.view.readAt (Elt F) (Rect.unit (s := S2048x1024) ![0, 320] S2048x64.size inb_S2048x1024_S2048x64_0_320).toLoadRect (harg4.unread x3)) = ATH x1 x2 x3 x4 x5 x6 5 :=
  (form5 _ _ _ _ _ _ _ mx5 sw5).trans (at_congr r1E (rdE _ _ _ _) (rdE _ _ _ _) rdB (rdE _ _ _ _))

theorem mx6 : (kernelRun2_A.sl.r_19 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 384] S256x64.size inb_S256x1024_S256x64_0_384).toLoadRect (harg2.unread x1)) (arg3.view.readAt (Elt F) (Rect.unit (s := S2048x1024) ![0, 384] S2048x64.size inb_S2048x1024_S2048x64_0_384).toLoadRect (harg3.unread x2)) (arg7.view.readAt (Elt F) (Rect.unit (s := S256x2048) ![0, 0] S256x2048.size inb_S256x2048_S256x2048_0_0).toLoadRect (harg7.unread x6))) := rfl

theorem sw6 : (kernelRun2_A.sl.v339 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 384] S256x64.size inb_S256x1024_S256x64_0_384).toLoadRect (harg2.unread x1)) (arg3.view.readAt (Elt F) (Rect.unit (s := S2048x1024) ![0, 384] S2048x64.size inb_S2048x1024_S2048x64_0_384).toLoadRect (harg3.unread x2)) (arg7.view.readAt (Elt F) (Rect.unit (s := S256x2048) ![0, 0] S256x2048.size inb_S256x2048_S256x2048_0_0).toLoadRect (harg7.unread x6))) 32 :=
  rdCov arg14 _ _ (loop2 (ht := (trips2).le) ..).2.2.2.1 trips2 rfl (shapeCast_self _ _)

theorem ixE6 : (kernelRun2_A.sl.r_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 384] S256x64.size inb_S256x1024_S256x64_0_384).toLoadRect (harg2.unread x1)) (arg3.view.readAt (Elt F) (Rect.unit (s := S2048x1024) ![0, 384] S2048x64.size inb_S2048x1024_S2048x64_0_384).toLoadRect (harg3.unread x2)) (arg7.view.readAt (Elt F) (Rect.unit (s := S256x2048) ![0, 0] S256x2048.size inb_S256x2048_S256x2048_0_0).toLoadRect (harg7.unread x6))) k2_pay106 32 := by
  unfold kernelRun2_A.sl.r_23
  exact ixCov arg14 _ (pr3 (loop2 (ht := (trips2).le) ..).1) trips2 rfl (shapeCast_self _ _)

theorem scE6 : (SC (kernelRun2_A.sl.r_1 c arg5 harg5 arg6 harg6 x4 x5) (arg2.view.readAt (Elt F) (Rect.unit (s := S256x1024) ![0, 384] S256x64.size inb_S256x1024_S256x64_0_384).toLoadRect (harg2.unread x1)) (arg3.view.readAt (Elt F) (Rect.unit (s := S2048x1024) ![0, 384] S2048x64.size inb_S2048x1024_S2048x64_0_384).toLoadRect (harg3.unread x2)) (arg7.view.readAt (Elt F) (Rect.unit (s := S256x2048) ![0, 0] S256x2048.size inb_S256x2048_S256x2048_0_0).toLoadRect (harg7.unread x6))) = SCH x1 x2 x4 x5 x6 6 :=
  sc_congr r1E (rdE _ _ _ _) (rdE _ _ _ _) rdB

theorem head6 : k2_pay114 (kernelRun2_A.sl.r_1 c arg5 harg5 arg6 harg6 x4 x5) (kernelRun2_A.sl.r_19 c arg2 harg2 arg3 harg3 arg5 harg5 arg6 harg6 arg7 harg7 x1 x2 x4 x5 x6) (kernelRun2_A.sl.v339 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) k2_pay113 (arg2.view.readAt (Elt F) (Rect.unit (s := S256x1024) ![0, 384] S256x64.size inb_S256x1024_S256x64_0_384).toLoadRect (harg2.unread x1)) (arg3.view.readAt (Elt F) (Rect.unit (s := S2048x1024) ![0, 384] S2048x64.size inb_S2048x1024_S2048x64_0_384).toLoadRect (harg3.unread x2)) (arg7.view.readAt (Elt F) (Rect.unit (s := S256x2048) ![0, 0] S256x2048.size inb_S256x2048_S256x2048_0_0).toLoadRect (harg7.unread x6)) (arg4.view.readAt (Elt F) (Rect.unit (s := S2048x1024) ![0, 384] S2048x64.size inb_S2048x1024_S2048x64_0_384).toLoadRect (harg4.unread x3)) = ATH x1 x2 x3 x4 x5 x6 6 :=
  (form6 _ _ _ _ _ _ _ mx6 sw6).trans (at_congr r1E (rdE _ _ _ _) (rdE _ _ _ _) rdB (rdE _ _ _ _))

theorem mx7 : (kernelRun2_A.sl.r_20 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 448] S256x64.size inb_S256x1024_S256x64_0_448).toLoadRect (harg2.unread x1)) (arg3.view.readAt (Elt F) (Rect.unit (s := S2048x1024) ![0, 448] S2048x64.size inb_S2048x1024_S2048x64_0_448).toLoadRect (harg3.unread x2)) (arg7.view.readAt (Elt F) (Rect.unit (s := S256x2048) ![0, 0] S256x2048.size inb_S256x2048_S256x2048_0_0).toLoadRect (harg7.unread x6))) := rfl

theorem sw7 : (kernelRun2_A.sl.v371 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 448] S256x64.size inb_S256x1024_S256x64_0_448).toLoadRect (harg2.unread x1)) (arg3.view.readAt (Elt F) (Rect.unit (s := S2048x1024) ![0, 448] S2048x64.size inb_S2048x1024_S2048x64_0_448).toLoadRect (harg3.unread x2)) (arg7.view.readAt (Elt F) (Rect.unit (s := S256x2048) ![0, 0] S256x2048.size inb_S256x2048_S256x2048_0_0).toLoadRect (harg7.unread x6))) 32 :=
  rdCov arg15 _ _ (loop2 (ht := (trips2).le) ..).2.2.2.2 trips2 rfl (shapeCast_self _ _)

theorem ixE7 : (kernelRun2_A.sl.r_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 448] S256x64.size inb_S256x1024_S256x64_0_448).toLoadRect (harg2.unread x1)) (arg3.view.readAt (Elt F) (Rect.unit (s := S2048x1024) ![0, 448] S2048x64.size inb_S2048x1024_S2048x64_0_448).toLoadRect (harg3.unread x2)) (arg7.view.readAt (Elt F) (Rect.unit (s := S256x2048) ![0, 0] S256x2048.size inb_S256x2048_S256x2048_0_0).toLoadRect (harg7.unread x6))) k2_pay106 32 := by
  unfold kernelRun2_A.sl.r_24
  exact ixCov arg15 _ (pr4 (loop2 (ht := (trips2).le) ..).1) trips2 rfl (shapeCast_self _ _)

theorem scE7 : (SC (kernelRun2_A.sl.r_1 c arg5 harg5 arg6 harg6 x4 x5) (arg2.view.readAt (Elt F) (Rect.unit (s := S256x1024) ![0, 448] S256x64.size inb_S256x1024_S256x64_0_448).toLoadRect (harg2.unread x1)) (arg3.view.readAt (Elt F) (Rect.unit (s := S2048x1024) ![0, 448] S2048x64.size inb_S2048x1024_S2048x64_0_448).toLoadRect (harg3.unread x2)) (arg7.view.readAt (Elt F) (Rect.unit (s := S256x2048) ![0, 0] S256x2048.size inb_S256x2048_S256x2048_0_0).toLoadRect (harg7.unread x6))) = SCH x1 x2 x4 x5 x6 7 :=
  sc_congr r1E (rdE _ _ _ _) (rdE _ _ _ _) rdB

theorem head7 : k2_pay118 (kernelRun2_A.sl.r_1 c arg5 harg5 arg6 harg6 x4 x5) (kernelRun2_A.sl.r_20 c arg2 harg2 arg3 harg3 arg5 harg5 arg6 harg6 arg7 harg7 x1 x2 x4 x5 x6) (kernelRun2_A.sl.r_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (kernelRun2_A.sl.r_26 c arg2 harg2 x1) (arg3.view.readAt (Elt F) (Rect.unit (s := S2048x1024) ![0, 448] S2048x64.size inb_S2048x1024_S2048x64_0_448).toLoadRect (harg3.unread x2)) (arg7.view.readAt (Elt F) (Rect.unit (s := S256x2048) ![0, 0] S256x2048.size inb_S256x2048_S256x2048_0_0).toLoadRect (harg7.unread x6)) (arg4.view.readAt (Elt F) (Rect.unit (s := S2048x1024) ![0, 448] S2048x64.size inb_S2048x1024_S2048x64_0_448).toLoadRect (harg4.unread x3)) = ATH x1 x2 x3 x4 x5 x6 7 :=
  (form7 _ _ _ _ _ _ _ mx7 sw7).trans (at_congr r1E (rdE _ _ _ _) (rdE _ _ _ _) rdB (rdE _ _ _ _))

theorem mx8 : (kernelRun2_A.sl.r_28 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 512] S256x64.size inb_S256x1024_S256x64_0_512).toLoadRect (harg2.unread x1)) (arg3.view.readAt (Elt F) (Rect.unit (s := S2048x1024) ![0, 512] S2048x64.size inb_S2048x1024_S2048x64_0_512).toLoadRect (harg3.unread x2)) (arg7.view.readAt (Elt F) (Rect.unit (s := S256x2048) ![0, 0] S256x2048.size inb_S256x2048_S256x2048_0_0).toLoadRect (harg7.unread x6))) := rfl

theorem sw8 : (kernelRun2_A.sl.v470 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 512] S256x64.size inb_S256x1024_S256x64_0_512).toLoadRect (harg2.unread x1)) (arg3.view.readAt (Elt F) (Rect.unit (s := S2048x1024) ![0, 512] S2048x64.size inb_S2048x1024_S2048x64_0_512).toLoadRect (harg3.unread x2)) (arg7.view.readAt (Elt F) (Rect.unit (s := S256x2048) ![0, 0] S256x2048.size inb_S256x2048_S256x2048_0_0).toLoadRect (harg7.unread x6))) 32 :=
  rdCov arg12 _ _ (loop3 (ht := (trips3).le) ..).2.1 trips3 rfl (shapeCast_self _ _)

theorem scE8 : (SC (kernelRun2_A.sl.r_1 c arg5 harg5 arg6 harg6 x4 x5) (arg2.view.readAt (Elt F) (Rect.unit (s := S256x1024) ![0, 512] S256x64.size inb_S256x1024_S256x64_0_512).toLoadRect (harg2.unread x1)) (arg3.view.readAt (Elt F) (Rect.unit (s := S2048x1024) ![0, 512] S2048x64.size inb_S2048x1024_S2048x64_0_512).toLoadRect (harg3.unread x2)) (arg7.view.readAt (Elt F) (Rect.unit (s := S256x2048) ![0, 0] S256x2048.size inb_S256x2048_S256x2048_0_0).toLoadRect (harg7.unread x6))) = SCH x1 x2 x4 x5 x6 8 :=
  sc_congr r1E (rdE _ _ _ _) (rdE _ _ _ _) rdB

theorem head8 : k2_pay137 (kernelRun2_A.sl.r_1 c arg5 harg5 arg6 harg6 x4 x5) (kernelRun2_A.sl.r_28 c arg2 harg2 arg3 harg3 arg5 harg5 arg6 harg6 arg7 harg7 x1 x2 x4 x5 x6) (kernelRun2_A.sl.r_36 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (kernelRun2_A.sl.r_37 c arg2 harg2 x1) (kernelRun2_A.sl.r_38 c arg3 harg3 x2) kernelRun2_A.sl.cst_308 (arg7.view.readAt (Elt F) (Rect.unit (s := S256x2048) ![0, 0] S256x2048.size inb_S256x2048_S256x2048_0_0).toLoadRect (harg7.unread x6)) (arg4.view.readAt (Elt F) (Rect.unit (s := S2048x1024) ![0, 512] S2048x64.size inb_S2048x1024_S2048x64_0_512).toLoadRect (harg4.unread x3)) = ATH x1 x2 x3 x4 x5 x6 8 :=
  (form8 _ _ _ _ _ _ _ mx8 sw8).trans (at_congr r1E (rdE _ _ _ _) (rdE _ _ _ _) rdB (rdE _ _ _ _))

theorem mx9 : (kernelRun2_A.sl.r_29 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 576] S256x64.size inb_S256x1024_S256x64_0_576).toLoadRect (harg2.unread x1)) (arg3.view.readAt (Elt F) (Rect.unit (s := S2048x1024) ![0, 576] S2048x64.size inb_S2048x1024_S2048x64_0_576).toLoadRect (harg3.unread x2)) (arg7.view.readAt (Elt F) (Rect.unit (s := S256x2048) ![0, 0] S256x2048.size inb_S256x2048_S256x2048_0_0).toLoadRect (harg7.unread x6))) := rfl

theorem sw9 : (kernelRun2_A.sl.v502 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 576] S256x64.size inb_S256x1024_S256x64_0_576).toLoadRect (harg2.unread x1)) (arg3.view.readAt (Elt F) (Rect.unit (s := S2048x1024) ![0, 576] S2048x64.size inb_S2048x1024_S2048x64_0_576).toLoadRect (harg3.unread x2)) (arg7.view.readAt (Elt F) (Rect.unit (s := S256x2048) ![0, 0] S256x2048.size inb_S256x2048_S256x2048_0_0).toLoadRect (harg7.unread x6))) 32 :=
  rdCov arg13 _ _ (loop3 (ht := (trips3).le) ..).2.2.1 trips3 rfl (shapeCast_self _ _)

theorem ixE9 : (kernelRun2_A.sl.r_33 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 576] S256x64.size inb_S256x1024_S256x64_0_576).toLoadRect (harg2.unread x1)) (arg3.view.readAt (Elt F) (Rect.unit (s := S2048x1024) ![0, 576] S2048x64.size inb_S2048x1024_S2048x64_0_576).toLoadRect (harg3.unread x2)) (arg7.view.readAt (Elt F) (Rect.unit (s := S256x2048) ![0, 0] S256x2048.size inb_S256x2048_S256x2048_0_0).toLoadRect (harg7.unread x6))) k2_pay131 32 := by
  unfold kernelRun2_A.sl.r_33
  exact ixCov arg13 _ (pr2 (loop3 (ht := (trips3).le) ..).1) trips3 rfl (shapeCast_self _ _)

theorem scE9 : (SC (kernelRun2_A.sl.r_1 c arg5 harg5 arg6 harg6 x4 x5) (arg2.view.readAt (Elt F) (Rect.unit (s := S256x1024) ![0, 576] S256x64.size inb_S256x1024_S256x64_0_576).toLoadRect (harg2.unread x1)) (arg3.view.readAt (Elt F) (Rect.unit (s := S2048x1024) ![0, 576] S2048x64.size inb_S2048x1024_S2048x64_0_576).toLoadRect (harg3.unread x2)) (arg7.view.readAt (Elt F) (Rect.unit (s := S256x2048) ![0, 0] S256x2048.size inb_S256x2048_S256x2048_0_0).toLoadRect (harg7.unread x6))) = SCH x1 x2 x4 x5 x6 9 :=
  sc_congr r1E (rdE _ _ _ _) (rdE _ _ _ _) rdB

theorem head9 : k2_pay141 (kernelRun2_A.sl.r_1 c arg5 harg5 arg6 harg6 x4 x5) (kernelRun2_A.sl.r_29 c arg2 harg2 arg3 harg3 arg5 harg5 arg6 harg6 arg7 harg7 x1 x2 x4 x5 x6) (kernelRun2_A.sl.r_39 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (kernelRun2_A.sl.r_40 c arg2 harg2 arg3 harg3 x1 x2) (arg7.view.readAt (Elt F) (Rect.unit (s := S256x2048) ![0, 0] S256x2048.size inb_S256x2048_S256x2048_0_0).toLoadRect (harg7.unread x6)) (arg4.view.readAt (Elt F) (Rect.unit (s := S2048x1024) ![0, 576] S2048x64.size inb_S2048x1024_S2048x64_0_576).toLoadRect (harg4.unread x3)) = ATH x1 x2 x3 x4 x5 x6 9 :=
  (form9 _ _ _ _ _ _ _ mx9 sw9).trans (at_congr r1E (rdE _ _ _ _) (rdE _ _ _ _) rdB (rdE _ _ _ _))

theorem mx10 : (kernelRun2_A.sl.r_31 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 640] S256x64.size inb_S256x1024_S256x64_0_640).toLoadRect (harg2.unread x1)) (arg3.view.readAt (Elt F) (Rect.unit (s := S2048x1024) ![0, 640] S2048x64.size inb_S2048x1024_S2048x64_0_640).toLoadRect (harg3.unread x2)) (arg7.view.readAt (Elt F) (Rect.unit (s := S256x2048) ![0, 0] S256x2048.size inb_S256x2048_S256x2048_0_0).toLoadRect (harg7.unread x6))) := rfl

theorem sw10 : (kernelRun2_A.sl.v534 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 640] S256x64.size inb_S256x1024_S256x64_0_640).toLoadRect (harg2.unread x1)) (arg3.view.readAt (Elt F) (Rect.unit (s := S2048x1024) ![0, 640] S2048x64.size inb_S2048x1024_S2048x64_0_640).toLoadRect (harg3.unread x2)) (arg7.view.readAt (Elt F) (Rect.unit (s := S256x2048) ![0, 0] S256x2048.size inb_S256x2048_S256x2048_0_0).toLoadRect (harg7.unread x6))) 32 :=
  rdCov arg14 _ _ (loop3 (ht := (trips3).le) ..).2.2.2.1 trips3 rfl (shapeCast_self _ _)

theorem ixE10 : (kernelRun2_A.sl.r_34 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 640] S256x64.size inb_S256x1024_S256x64_0_640).toLoadRect (harg2.unread x1)) (arg3.view.readAt (Elt F) (Rect.unit (s := S2048x1024) ![0, 640] S2048x64.size inb_S2048x1024_S2048x64_0_640).toLoadRect (harg3.unread x2)) (arg7.view.readAt (Elt F) (Rect.unit (s := S256x2048) ![0, 0] S256x2048.size inb_S256x2048_S256x2048_0_0).toLoadRect (harg7.unread x6))) k2_pay131 32 := by
  unfold kernelRun2_A.sl.r_34
  exact ixCov arg14 _ (pr3 (loop3 (ht := (trips3).le) ..).1) trips3 rfl (shapeCast_self _ _)

theorem scE10 : (SC (kernelRun2_A.sl.r_1 c arg5 harg5 arg6 harg6 x4 x5) (arg2.view.readAt (Elt F) (Rect.unit (s := S256x1024) ![0, 640] S256x64.size inb_S256x1024_S256x64_0_640).toLoadRect (harg2.unread x1)) (arg3.view.readAt (Elt F) (Rect.unit (s := S2048x1024) ![0, 640] S2048x64.size inb_S2048x1024_S2048x64_0_640).toLoadRect (harg3.unread x2)) (arg7.view.readAt (Elt F) (Rect.unit (s := S256x2048) ![0, 0] S256x2048.size inb_S256x2048_S256x2048_0_0).toLoadRect (harg7.unread x6))) = SCH x1 x2 x4 x5 x6 10 :=
  sc_congr r1E (rdE _ _ _ _) (rdE _ _ _ _) rdB

theorem head10 : k2_pay145 (kernelRun2_A.sl.r_31 c arg2 harg2 arg3 harg3 arg5 harg5 arg6 harg6 arg7 harg7 x1 x2 x4 x5 x6) (kernelRun2_A.sl.r_41 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (kernelRun2_A.sl.r_42 c arg2 harg2 arg3 harg3 arg5 harg5 arg6 harg6 arg7 harg7 x1 x2 x4 x5 x6) (arg4.view.readAt (Elt F) (Rect.unit (s := S2048x1024) ![0, 640] S2048x64.size inb_S2048x1024_S2048x64_0_640).toLoadRect (harg4.unread x3)) = ATH x1 x2 x3 x4 x5 x6 10 :=
  (form10 _ _ _ _ _ _ _ mx10 sw10).trans (at_congr r1E (rdE _ _ _ _) (rdE _ _ _ _) rdB (rdE _ _ _ _))

theorem mx11 : (kernelRun2_A.sl.r_32 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 704] S256x64.size inb_S256x1024_S256x64_0_704).toLoadRect (harg2.unread x1)) (arg3.view.readAt (Elt F) (Rect.unit (s := S2048x1024) ![0, 704] S2048x64.size inb_S2048x1024_S2048x64_0_704).toLoadRect (harg3.unread x2)) (arg7.view.readAt (Elt F) (Rect.unit (s := S256x2048) ![0, 0] S256x2048.size inb_S256x2048_S256x2048_0_0).toLoadRect (harg7.unread x6))) := rfl

theorem sw11 : (kernelRun2_A.sl.v566 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 704] S256x64.size inb_S256x1024_S256x64_0_704).toLoadRect (harg2.unread x1)) (arg3.view.readAt (Elt F) (Rect.unit (s := S2048x1024) ![0, 704] S2048x64.size inb_S2048x1024_S2048x64_0_704).toLoadRect (harg3.unread x2)) (arg7.view.readAt (Elt F) (Rect.unit (s := S256x2048) ![0, 0] S256x2048.size inb_S256x2048_S256x2048_0_0).toLoadRect (harg7.unread x6))) 32 :=
  rdCov arg15 _ _ (loop3 (ht := (trips3).le) ..).2.2.2.2 trips3 rfl (shapeCast_self _ _)

theorem ixE11 : (kernelRun2_A.sl.r_35 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 704] S256x64.size inb_S256x1024_S256x64_0_704).toLoadRect (harg2.unread x1)) (arg3.view.readAt (Elt F) (Rect.unit (s := S2048x1024) ![0, 704] S2048x64.size inb_S2048x1024_S2048x64_0_704).toLoadRect (harg3.unread x2)) (arg7.view.readAt (Elt F) (Rect.unit (s := S256x2048) ![0, 0] S256x2048.size inb_S256x2048_S256x2048_0_0).toLoadRect (harg7.unread x6))) k2_pay131 32 := by
  unfold kernelRun2_A.sl.r_35
  exact ixCov arg15 _ (pr4 (loop3 (ht := (trips3).le) ..).1) trips3 rfl (shapeCast_self _ _)

theorem scE11 : (SC (kernelRun2_A.sl.r_1 c arg5 harg5 arg6 harg6 x4 x5) (arg2.view.readAt (Elt F) (Rect.unit (s := S256x1024) ![0, 704] S256x64.size inb_S256x1024_S256x64_0_704).toLoadRect (harg2.unread x1)) (arg3.view.readAt (Elt F) (Rect.unit (s := S2048x1024) ![0, 704] S2048x64.size inb_S2048x1024_S2048x64_0_704).toLoadRect (harg3.unread x2)) (arg7.view.readAt (Elt F) (Rect.unit (s := S256x2048) ![0, 0] S256x2048.size inb_S256x2048_S256x2048_0_0).toLoadRect (harg7.unread x6))) = SCH x1 x2 x4 x5 x6 11 :=
  sc_congr r1E (rdE _ _ _ _) (rdE _ _ _ _) rdB

theorem head11 : k2_pay150 (kernelRun2_A.sl.r_43 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (kernelRun2_A.sl.r_44 c arg2 harg2 arg3 harg3 arg5 harg5 arg6 harg6 arg7 harg7 x1 x2 x4 x5 x6) k2_pay149 (arg4.view.readAt (Elt F) (Rect.unit (s := S2048x1024) ![0, 704] S2048x64.size inb_S2048x1024_S2048x64_0_704).toLoadRect (harg4.unread x3)) = ATH x1 x2 x3 x4 x5 x6 11 :=
  (form11 _ _ _ _ _ _ _ mx11 sw11).trans (at_congr r1E (rdE _ _ _ _) (rdE _ _ _ _) rdB (rdE _ _ _ _))

theorem mx12 : (kernelRun2_A.sl.r_45 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 768] S256x64.size inb_S256x1024_S256x64_0_768).toLoadRect (harg2.unread x1)) (arg3.view.readAt (Elt F) (Rect.unit (s := S2048x1024) ![0, 768] S2048x64.size inb_S2048x1024_S2048x64_0_768).toLoadRect (harg3.unread x2)) (arg7.view.readAt (Elt F) (Rect.unit (s := S256x2048) ![0, 0] S256x2048.size inb_S256x2048_S256x2048_0_0).toLoadRect (harg7.unread x6))) := rfl

theorem sw12 : (kernelRun2_A.sl.v665 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 768] S256x64.size inb_S256x1024_S256x64_0_768).toLoadRect (harg2.unread x1)) (arg3.view.readAt (Elt F) (Rect.unit (s := S2048x1024) ![0, 768] S2048x64.size inb_S2048x1024_S2048x64_0_768).toLoadRect (harg3.unread x2)) (arg7.view.readAt (Elt F) (Rect.unit (s := S256x2048) ![0, 0] S256x2048.size inb_S256x2048_S256x2048_0_0).toLoadRect (harg7.unread x6))) 32 :=
  rdCov arg12 _ _ (loop4 (ht := (trips4).le) ..).2.1 trips4 rfl (shapeCast_self _ _)

theorem scE12 : (SC (kernelRun2_A.sl.r_1 c arg5 harg5 arg6 harg6 x4 x5) (arg2.view.readAt (Elt F) (Rect.unit (s := S256x1024) ![0, 768] S256x64.size inb_S256x1024_S256x64_0_768).toLoadRect (harg2.unread x1)) (arg3.view.readAt (Elt F) (Rect.unit (s := S2048x1024) ![0, 768] S2048x64.size inb_S2048x1024_S2048x64_0_768).toLoadRect (harg3.unread x2)) (arg7.view.readAt (Elt F) (Rect.unit (s := S256x2048) ![0, 0] S256x2048.size inb_S256x2048_S256x2048_0_0).toLoadRect (harg7.unread x6))) = SCH x1 x2 x4 x5 x6 12 :=
  sc_congr r1E (rdE _ _ _ _) (rdE _ _ _ _) rdB

theorem head12 : k2_pay170 (kernelRun2_A.sl.r_54 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (kernelRun2_A.sl.r_55 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (arg4.view.readAt (Elt F) (Rect.unit (s := S2048x1024) ![0, 768] S2048x64.size inb_S2048x1024_S2048x64_0_768).toLoadRect (harg4.unread x3)) = ATH x1 x2 x3 x4 x5 x6 12 :=
  (form12 _ _ _ _ _ _ _ mx12 sw12).trans (at_congr r1E (rdE _ _ _ _) (rdE _ _ _ _) rdB (rdE _ _ _ _))

theorem mx13 : (kernelRun2_A.sl.r_47 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 832] S256x64.size inb_S256x1024_S256x64_0_832).toLoadRect (harg2.unread x1)) (arg3.view.readAt (Elt F) (Rect.unit (s := S2048x1024) ![0, 832] S2048x64.size inb_S2048x1024_S2048x64_0_832).toLoadRect (harg3.unread x2)) (arg7.view.readAt (Elt F) (Rect.unit (s := S256x2048) ![0, 0] S256x2048.size inb_S256x2048_S256x2048_0_0).toLoadRect (harg7.unread x6))) := rfl

theorem sw13 : (kernelRun2_A.sl.v697 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 832] S256x64.size inb_S256x1024_S256x64_0_832).toLoadRect (harg2.unread x1)) (arg3.view.readAt (Elt F) (Rect.unit (s := S2048x1024) ![0, 832] S2048x64.size inb_S2048x1024_S2048x64_0_832).toLoadRect (harg3.unread x2)) (arg7.view.readAt (Elt F) (Rect.unit (s := S256x2048) ![0, 0] S256x2048.size inb_S256x2048_S256x2048_0_0).toLoadRect (harg7.unread x6))) 32 :=
  rdCov arg13 _ _ (loop4 (ht := (trips4).le) ..).2.2.1 trips4 rfl (shapeCast_self _ _)

theorem ixE13 : (kernelRun2_A.sl.r_51 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 832] S256x64.size inb_S256x1024_S256x64_0_832).toLoadRect (harg2.unread x1)) (arg3.view.readAt (Elt F) (Rect.unit (s := S2048x1024) ![0, 832] S2048x64.size inb_S2048x1024_S2048x64_0_832).toLoadRect (harg3.unread x2)) (arg7.view.readAt (Elt F) (Rect.unit (s := S256x2048) ![0, 0] S256x2048.size inb_S256x2048_S256x2048_0_0).toLoadRect (harg7.unread x6))) k2_pay165 32 := by
  unfold kernelRun2_A.sl.r_51
  exact ixCov arg13 _ (pr2 (loop4 (ht := (trips4).le) ..).1) trips4 rfl (shapeCast_self _ _)

theorem scE13 : (SC (kernelRun2_A.sl.r_1 c arg5 harg5 arg6 harg6 x4 x5) (arg2.view.readAt (Elt F) (Rect.unit (s := S256x1024) ![0, 832] S256x64.size inb_S256x1024_S256x64_0_832).toLoadRect (harg2.unread x1)) (arg3.view.readAt (Elt F) (Rect.unit (s := S2048x1024) ![0, 832] S2048x64.size inb_S2048x1024_S2048x64_0_832).toLoadRect (harg3.unread x2)) (arg7.view.readAt (Elt F) (Rect.unit (s := S256x2048) ![0, 0] S256x2048.size inb_S256x2048_S256x2048_0_0).toLoadRect (harg7.unread x6))) = SCH x1 x2 x4 x5 x6 13 :=
  sc_congr r1E (rdE _ _ _ _) (rdE _ _ _ _) rdB

theorem head13 : k2_pay175 (kernelRun2_A.sl.r_56 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (kernelRun2_A.sl.r_57 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6) = ATH x1 x2 x3 x4 x5 x6 13 :=
  (form13 _ _ _ _ _ _ _ mx13 sw13).trans (at_congr r1E (rdE _ _ _ _) (rdE _ _ _ _) rdB (rdE _ _ _ _))

theorem mx14 : (kernelRun2_A.sl.r_48 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 896] S256x64.size inb_S256x1024_S256x64_0_896).toLoadRect (harg2.unread x1)) (arg3.view.readAt (Elt F) (Rect.unit (s := S2048x1024) ![0, 896] S2048x64.size inb_S2048x1024_S2048x64_0_896).toLoadRect (harg3.unread x2)) (arg7.view.readAt (Elt F) (Rect.unit (s := S256x2048) ![0, 0] S256x2048.size inb_S256x2048_S256x2048_0_0).toLoadRect (harg7.unread x6))) := rfl

theorem sw14 : (kernelRun2_A.sl.v729 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 896] S256x64.size inb_S256x1024_S256x64_0_896).toLoadRect (harg2.unread x1)) (arg3.view.readAt (Elt F) (Rect.unit (s := S2048x1024) ![0, 896] S2048x64.size inb_S2048x1024_S2048x64_0_896).toLoadRect (harg3.unread x2)) (arg7.view.readAt (Elt F) (Rect.unit (s := S256x2048) ![0, 0] S256x2048.size inb_S256x2048_S256x2048_0_0).toLoadRect (harg7.unread x6))) 32 :=
  rdCov arg14 _ _ (loop4 (ht := (trips4).le) ..).2.2.2.1 trips4 rfl (shapeCast_self _ _)

theorem ixE14 : (kernelRun2_A.sl.r_52 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 896] S256x64.size inb_S256x1024_S256x64_0_896).toLoadRect (harg2.unread x1)) (arg3.view.readAt (Elt F) (Rect.unit (s := S2048x1024) ![0, 896] S2048x64.size inb_S2048x1024_S2048x64_0_896).toLoadRect (harg3.unread x2)) (arg7.view.readAt (Elt F) (Rect.unit (s := S256x2048) ![0, 0] S256x2048.size inb_S256x2048_S256x2048_0_0).toLoadRect (harg7.unread x6))) k2_pay165 32 := by
  unfold kernelRun2_A.sl.r_52
  exact ixCov arg14 _ (pr3 (loop4 (ht := (trips4).le) ..).1) trips4 rfl (shapeCast_self _ _)

theorem scE14 : (SC (kernelRun2_A.sl.r_1 c arg5 harg5 arg6 harg6 x4 x5) (arg2.view.readAt (Elt F) (Rect.unit (s := S256x1024) ![0, 896] S256x64.size inb_S256x1024_S256x64_0_896).toLoadRect (harg2.unread x1)) (arg3.view.readAt (Elt F) (Rect.unit (s := S2048x1024) ![0, 896] S2048x64.size inb_S2048x1024_S2048x64_0_896).toLoadRect (harg3.unread x2)) (arg7.view.readAt (Elt F) (Rect.unit (s := S256x2048) ![0, 0] S256x2048.size inb_S256x2048_S256x2048_0_0).toLoadRect (harg7.unread x6))) = SCH x1 x2 x4 x5 x6 14 :=
  sc_congr r1E (rdE _ _ _ _) (rdE _ _ _ _) rdB

theorem head14 : k2_pay178 (kernelRun2_A.sl.r_58 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6) = ATH x1 x2 x3 x4 x5 x6 14 :=
  (form14 _ _ _ _ _ _ _ mx14 sw14).trans (at_congr r1E (rdE _ _ _ _) (rdE _ _ _ _) rdB (rdE _ _ _ _))

theorem mx15 : (kernelRun2_A.sl.r_50 c arg2 harg2 arg3 harg3 arg5 harg5 arg6 harg6 arg7 harg7 x1 x2 x4 x5 x6) = MX (SC (kernelRun2_A.sl.r_1 c arg5 harg5 arg6 harg6 x4 x5) (arg2.view.readAt (Elt F) (Rect.unit (s := S256x1024) ![0, 960] S256x64.size inb_S256x1024_S256x64_0_960).toLoadRect (harg2.unread x1)) (arg3.view.readAt (Elt F) (Rect.unit (s := S2048x1024) ![0, 960] S2048x64.size inb_S2048x1024_S2048x64_0_960).toLoadRect (harg3.unread x2)) (arg7.view.readAt (Elt F) (Rect.unit (s := S256x2048) ![0, 0] S256x2048.size inb_S256x2048_S256x2048_0_0).toLoadRect (harg7.unread x6))) := rfl

theorem sw15 : (kernelRun2_A.sl.v761 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = SW kernelRun2_A.sl.v8 (SC (kernelRun2_A.sl.r_1 c arg5 harg5 arg6 harg6 x4 x5) (arg2.view.readAt (Elt F) (Rect.unit (s := S256x1024) ![0, 960] S256x64.size inb_S256x1024_S256x64_0_960).toLoadRect (harg2.unread x1)) (arg3.view.readAt (Elt F) (Rect.unit (s := S2048x1024) ![0, 960] S2048x64.size inb_S2048x1024_S2048x64_0_960).toLoadRect (harg3.unread x2)) (arg7.view.readAt (Elt F) (Rect.unit (s := S256x2048) ![0, 0] S256x2048.size inb_S256x2048_S256x2048_0_0).toLoadRect (harg7.unread x6))) 32 :=
  rdCov arg15 _ _ (loop4 (ht := (trips4).le) ..).2.2.2.2 trips4 rfl (shapeCast_self _ _)

theorem ixE15 : (kernelRun2_A.sl.r_53 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) = IX kernelRun2_A.sl.v8 kernelRun2_A.sl.v9 (SC (kernelRun2_A.sl.r_1 c arg5 harg5 arg6 harg6 x4 x5) (arg2.view.readAt (Elt F) (Rect.unit (s := S256x1024) ![0, 960] S256x64.size inb_S256x1024_S256x64_0_960).toLoadRect (harg2.unread x1)) (arg3.view.readAt (Elt F) (Rect.unit (s := S2048x1024) ![0, 960] S2048x64.size inb_S2048x1024_S2048x64_0_960).toLoadRect (harg3.unread x2)) (arg7.view.readAt (Elt F) (Rect.unit (s := S256x2048) ![0, 0] S256x2048.size inb_S256x2048_S256x2048_0_0).toLoadRect (harg7.unread x6))) k2_pay165 32 := by
  unfold kernelRun2_A.sl.r_53
  exact ixCov arg15 _ (pr4 (loop4 (ht := (trips4).le) ..).1) trips4 rfl (shapeCast_self _ _)

theorem scE15 : (SC (kernelRun2_A.sl.r_1 c arg5 harg5 arg6 harg6 x4 x5) (arg2.view.readAt (Elt F) (Rect.unit (s := S256x1024) ![0, 960] S256x64.size inb_S256x1024_S256x64_0_960).toLoadRect (harg2.unread x1)) (arg3.view.readAt (Elt F) (Rect.unit (s := S2048x1024) ![0, 960] S2048x64.size inb_S2048x1024_S2048x64_0_960).toLoadRect (harg3.unread x2)) (arg7.view.readAt (Elt F) (Rect.unit (s := S256x2048) ![0, 0] S256x2048.size inb_S256x2048_S256x2048_0_0).toLoadRect (harg7.unread x6))) = SCH x1 x2 x4 x5 x6 15 :=
  sc_congr r1E (rdE _ _ _ _) (rdE _ _ _ _) rdB

theorem head15 : k2_pay180 (kernelRun2_A.sl.r_1 c arg5 harg5 arg6 harg6 x4 x5) (kernelRun2_A.sl.r_50 c arg2 harg2 arg3 harg3 arg5 harg5 arg6 harg6 arg7 harg7 x1 x2 x4 x5 x6) (kernelRun2_A.sl.v761 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x4 x5 x6) (arg2.view.readAt (Elt F) (Rect.unit (s := S256x1024) ![0, 960] S256x64.size inb_S256x1024_S256x64_0_960).toLoadRect (harg2.unread x1)) (arg3.view.readAt (Elt F) (Rect.unit (s := S2048x1024) ![0, 960] S2048x64.size inb_S2048x1024_S2048x64_0_960).toLoadRect (harg3.unread x2)) (arg7.view.readAt (Elt F) (Rect.unit (s := S256x2048) ![0, 0] S256x2048.size inb_S256x2048_S256x2048_0_0).toLoadRect (harg7.unread x6)) (arg4.view.readAt (Elt F) (Rect.unit (s := S2048x1024) ![0, 960] S2048x64.size inb_S2048x1024_S2048x64_0_960).toLoadRect (harg4.unread x3)) = ATH x1 x2 x3 x4 x5 x6 15 :=
  (form15 _ _ _ _ _ _ _ mx15 sw15).trans (at_congr r1E (rdE _ _ _ _) (rdE _ _ _ _) rdB (rdE _ _ _ _))

end

end Cert.KernelIdeal.Attn
-- ==== Proof.Rows.lean ====
module

public import Idealize.ShloMosaic.Lib.SortPrefix

/-! Facts about one row of scores: taking the first largest entry and lowering it, again and again, against the
stable sort in descending order. -/

@[expose] public section

namespace Cert.Rows

open Idealize.ShloMosaic

noncomputable section

variable {n : Nat} {κ : Type} [LinearOrder κ]

theorem exists_pick (hn : 0 < n) (w : Fin n → κ) :
    ∃ s : Fin n, (∀ p, w p ≤ w s) ∧ ∀ p, w p = w s → s ≤ p := by
  classical
  haveI : Nonempty (Fin n) := ⟨⟨0, hn⟩⟩
  obtain ⟨m, -, hm'⟩ := Finset.exists_max_image Finset.univ w Finset.univ_nonempty
  have hm : ∀ p, w p ≤ w m := fun p => hm' p (Finset.mem_univ p)
  have hne : (Finset.univ.filter fun p => w p = w m).Nonempty := ⟨m, by simp⟩
  refine ⟨(Finset.univ.filter fun p => w p = w m).min' hne, ?_, ?_⟩
  · intro p
    have := Finset.min'_mem _ hne
    rw [(Finset.mem_filter.mp this).2]
    exact hm p
  · intro p hp
    have := Finset.min'_mem _ hne
    rw [(Finset.mem_filter.mp this).2] at hp
    exact Finset.min'_le _ _ (by simp [hp])

/-- The first position of a largest entry. -/
def pick (hn : 0 < n) (w : Fin n → κ) : Fin n := (exists_pick hn w).choose

theorem le_pick (hn : 0 < n) (w : Fin n → κ) (p : Fin n) : w p ≤ w (pick hn w) := (exists_pick hn w).choose_spec.1 p

theorem pick_le (hn : 0 < n) (w : Fin n → κ) (p : Fin n) (h : w p = w (pick hn w)) : pick hn w ≤ p :=
  (exists_pick hn w).choose_spec.2 p h

theorem pick_eq (hn : 0 < n) (w : Fin n → κ) (s : Fin n) (h1 : ∀ p, w p ≤ w s) (h2 : ∀ p, w p = w s → s ≤ p) :
    pick hn w = s := by
  have e : w s = w (pick hn w) := le_antisymm (le_pick hn w s) (h1 _)
  exact le_antisymm (pick_le hn w s e) (h2 _ e.symm)

/-- One round: the first largest entry lowered to `c`. -/
def lower (hn : 0 < n) (c : κ) (w : Fin n → κ) : Fin n → κ := fun p => if p = pick hn w then c else w p

/-- The row after `t` rounds. -/
def row (hn : 0 < n) (c : κ) (w : Fin n → κ) : Nat → Fin n → κ
  | 0 => w
  | t + 1 => lower hn c (row hn c w t)

/-- The position taken by round `t`. -/
def sel (hn : 0 < n) (c : κ) (w : Fin n → κ) (t : Nat) : Fin n := pick hn (row hn c w t)

variable (hn : 0 < n) (c : κ) (w : Fin n → κ)

theorem row_succ (t : Nat) (p : Fin n) : row hn c w (t + 1) p = if p = sel hn c w t then c else row hn c w t p := rfl

theorem row_cases (t : Nat) (p : Fin n) :
    (row hn c w t p = c ∧ ∃ r, r < t ∧ sel hn c w r = p) ∨ (row hn c w t p = w p ∧ ∀ r, r < t → sel hn c w r ≠ p) := by
  induction t with
  | zero => exact Or.inr ⟨rfl, fun r h => absurd h (Nat.not_lt_zero r)⟩
  | succ t ih =>
    rw [row_succ]
    by_cases h : p = sel hn c w t
    · rw [if_pos h]
      exact Or.inl ⟨rfl, t, Nat.lt_succ_self t, h.symm⟩
    · rw [if_neg h]
      rcases ih with ⟨h1, r, hr, e⟩ | ⟨h1, h2⟩
      · exact Or.inl ⟨h1, r, Nat.lt_succ_of_lt hr, e⟩
      · refine Or.inr ⟨h1, fun r hr => ?_⟩
        rcases Nat.lt_succ_iff_lt_or_eq.mp hr with hr | rfl
        · exact h2 r hr
        · exact fun e => h e.symm

theorem row_eq_iff (hc : ∀ p, c < w p) (t : Nat) (p : Fin n) :
    row hn c w t p = c ↔ ∃ r, r < t ∧ sel hn c w r = p := by
  rcases row_cases hn c w t p with ⟨h1, h2⟩ | ⟨h1, h2⟩
  · exact ⟨fun _ => h2, fun _ => h1⟩
  · constructor
    · intro h
      rw [h1] at h
      exact absurd h (ne_of_gt (hc p))
    · rintro ⟨r, hr, e⟩
      exact absurd e (h2 r hr)

theorem exists_fresh (t : Nat) (ht : t < n) : ∃ p : Fin n, ∀ r, r < t → sel hn c w r ≠ p := by
  classical
  by_contra hcon
  push Not at hcon
  have hsub : (Finset.univ : Finset (Fin n)) ⊆ (Finset.range t).image (sel hn c w) := by
    intro p _
    obtain ⟨r, hr, e⟩ := hcon p
    exact Finset.mem_image.mpr ⟨r, Finset.mem_range.mpr hr, e⟩
  have := (Finset.card_le_card hsub).trans Finset.card_image_le
  simp at this
  omega

theorem sel_fresh (hc : ∀ p, c < w p) (t : Nat) (ht : t < n) (r : Nat) (hr : r < t) :
    sel hn c w r ≠ sel hn c w t := by
  intro e
  obtain ⟨p, hp⟩ := exists_fresh hn c w t ht
  have h1 : row hn c w t (sel hn c w t) = c := (row_eq_iff hn c w hc t _).mpr ⟨r, hr, e⟩
  have h2 := le_pick hn (row hn c w t) p
  change row hn c w t p ≤ row hn c w t (sel hn c w t) at h2
  rw [h1] at h2
  rcases row_cases hn c w t p with ⟨_, r', hr', e'⟩ | ⟨h3, _⟩
  · exact hp r' hr' e'
  · rw [h3] at h2
    exact absurd (hc p) (not_lt.mpr h2)

theorem row_sel (hc : ∀ p, c < w p) (t : Nat) (ht : t < n) : row hn c w t (sel hn c w t) = w (sel hn c w t) := by
  rcases row_cases hn c w t (sel hn c w t) with ⟨_, r, hr, e⟩ | ⟨h, _⟩
  · exact absurd e (sel_fresh hn c w hc t ht r hr)
  · exact h

/-- Of the positions not taken before, round `t` takes a largest, and the first such. -/
theorem sel_spec (hc : ∀ p, c < w p) (t : Nat) (ht : t < n) (p : Fin n) (hp : ∀ r, r < t → sel hn c w r ≠ p) :
    w p < w (sel hn c w t) ∨ (w p = w (sel hn c w t) ∧ sel hn c w t ≤ p) := by
  have h2 := le_pick hn (row hn c w t) p
  have h3 := pick_le hn (row hn c w t) p
  change row hn c w t p ≤ row hn c w t (sel hn c w t) at h2
  change row hn c w t p = row hn c w t (sel hn c w t) → sel hn c w t ≤ p at h3
  rw [row_sel hn c w hc t ht] at h2 h3
  rcases row_cases hn c w t p with ⟨_, r, hr, e⟩ | ⟨h, _⟩
  · exact absurd e (hp r hr)
  · rw [h] at h2 h3
    rcases lt_or_eq_of_le h2 with h2 | h2
    · exact Or.inl h2
    · exact Or.inr ⟨h2, h3 h2⟩

/-! ### The stable sort -/

theorem stableSort_tie (B : Fin n → Fin n → Bool) (R : Fin n → Fin n → Bool) (l : List (Fin n))
    (hl : l.Pairwise (· < ·)) (h : ∀ a b : Fin n, a < b → B b a = R b a) : stableSort B l = stableSort R l := by
  induction l with
  | nil => rfl
  | cons a l ih =>
    rw [List.pairwise_cons] at hl
    unfold stableSort
    rw [ih hl.2]
    refine insertBefore_congr B R a _ fun b hb => ?_
    exact h a b (hl.1 b ((perm_stableSort R l).mem_iff.mp hb))

theorem sortedFrom_tie (B : Fin n → Fin n → Bool) (R : Fin n → Fin n → Bool)
    (h : ∀ a b : Fin n, a < b → B b a = R b a) : sortedFrom B = sortedFrom R := by
  funext k
  have e : sortPositions n B = sortPositions n R := stableSort_tie B R _ (List.pairwise_lt_finRange n) h
  unfold sortedFrom
  rw [List.get_of_eq e]
  rfl

/-- The stable descending sort's first `k` positions are those the rounds take. -/
theorem sortedFrom_eq_sel (hc : ∀ p, c < w p) (B : Fin n → Fin n → Bool) (hB : ∀ a b, B a b = decide (w b < w a))
    (k : Nat) (hk : k ≤ n) (i : Fin k) : sortedFrom B (i.castLE hk) = sel hn c w i := by
  have hR := StrictTotalBefore.of_key_then_position (n := n) (fun a b : κ => decide (b < a)) w
    (fun a => by simp) (fun a b c hab hbc => by
      simp only [decide_eq_true_eq] at *
      exact lt_trans hbc hab)
    (fun a b => by
      simp only [decide_eq_true_eq]
      rcases lt_trichotomy a b with h | h | h
      · exact Or.inr (Or.inr h)
      · exact Or.inr (Or.inl h)
      · exact Or.inl h)
  rw [sortedFrom_tie B _ (fun a b hab => by
    rw [hB]
    have : decide (b < a) = false := by simpa using le_of_lt hab
    simp only [this, Bool.and_false, Bool.or_false] : ∀ a b : Fin n, a < b → B b a = ((fun k k' : Fin n => (fun a b : κ => decide (b < a)) (w k) (w k') || (decide (w k = w k') && decide (k < k'))) b a))]
  have hlt : ∀ j : Fin k, (j : Nat) < n := fun j => lt_of_lt_of_le j.2 hk
  refine hR.sortedFrom_eq_of_prefix hk (fun i => sel hn c w i) ?_ ?_ ?_ i
  · intro i j e
    rcases lt_trichotomy i.val j.val with h | h | h
    · exact absurd e (sel_fresh hn c w hc j (hlt j) i h)
    · exact Fin.ext h
    · exact absurd e.symm (sel_fresh hn c w hc i (hlt i) j h)
  · intro i j hij
    have hp : ∀ r, r < (i : Nat) → sel hn c w r ≠ sel hn c w j := fun r hr =>
      sel_fresh hn c w hc j (hlt j) r (lt_trans hr hij)
    rcases sel_spec hn c w hc i (hlt i) _ hp with h | ⟨h, h'⟩
    · simp [not_lt.mpr (le_of_lt h), ne_of_lt h]
    · simp [h, not_lt.mpr h']
  · intro i p hp
    have hp' : ∀ r, r < (i : Nat) → sel hn c w r ≠ p := fun r hr => hp ⟨r, lt_trans hr i.2⟩
    rcases sel_spec hn c w hc i (hlt i) _ hp' with h | ⟨h, h'⟩
    · simp [not_lt.mpr (le_of_lt h), ne_of_lt h]
    · simp [h, not_lt.mpr h']

/-- A sum over the lowered positions is a sum over the rounds. -/
theorem sum_lowered {M : Type} [AddCommMonoid M] (hc : ∀ p, c < w p) (k : Nat) (hk : k ≤ n) (f : Fin n → M) :
    (∑ p, if row hn c w k p = c then f p else 0) = ∑ i : Fin k, f (sel hn c w i) := by
  classical
  have hinj : Function.Injective fun i : Fin k => sel hn c w i := by
    intro i j e
    have hlt : ∀ j : Fin k, (j : Nat) < n := fun j => lt_of_lt_of_le j.2 hk
    rcases lt_trichotomy i.val j.val with h | h | h
    · exact absurd e (sel_fresh hn c w hc j (hlt j) i h)
    · exact Fin.ext h
    · exact absurd e.symm (sel_fresh hn c w hc i (hlt i) j h)
  rw [← Finset.sum_filter]
  have : (Finset.univ.filter fun p => row hn c w k p = c) = Finset.univ.image fun i : Fin k => sel hn c w i := by
    ext p
    simp only [Finset.mem_filter, Finset.mem_univ, true_and, Finset.mem_image]
    rw [row_eq_iff hn c w hc]
    constructor
    · rintro ⟨r, hr, e⟩
      exact ⟨⟨r, hr⟩, e⟩
    · rintro ⟨r, e⟩
      exact ⟨r, r.2, e⟩
  rw [this, Finset.sum_image fun a _ b _ e => hinj e]

end

end Cert.Rows
-- ==== Proof.AttnRow.lean ====
module

public import proofs.«01_k».proof.Proof.Trip
public import proofs.«01_k».proof.Proof.Rows
public import Idealize.ShloMosaic.Lib.Pointwise
public import Idealize.ShloMosaic.Lib.WordArith

/-! A trip of the attention kernel's loops read at a row: the row's first largest score is taken and lowered. -/

@[expose] public section

set_option maxRecDepth 16384

namespace Cert.KernelIdeal.Attn

open Cert.KernelIdeal Cert.KernelIdeal.Gen Cert.Rows
open Idealize.ShloMosaic Idealize.ShloMosaic.TcCoe

noncomputable section

/-- The number the kernel lowers a taken score to. -/
def NEG : EReal := Ideal.ofBits .f32 0xFF61B1E6#32

theorem pos2048 : 0 < 2048 := by decide

theorem fold_max_pick {n : ℕ} (hn : 0 < n) (w : Fin n → EReal) :
    (Finset.univ : Finset (Fin n)).fold max ⊥ w = w (pick hn w) := by
  refine le_antisymm ?_ ?_
  · exact (Finset.fold_max_le _).mpr ⟨bot_le, fun p _ => le_pick hn w p⟩
  · exact (Finset.le_fold_max _).mpr (Or.inr ⟨_, Finset.mem_univ _, le_refl _⟩)

theorem fold_minsi {ι : Type} [DecidableEq ι] (s : Finset ι) (f : ι → BitVec 32) (hf : ∀ p, (f p).toNat < 2 ^ 31) :
    (s.fold IntOp.minsi 2147483647#32 f).toNat < 2 ^ 31
    ∧ (∀ p ∈ s, (s.fold IntOp.minsi 2147483647#32 f).toNat ≤ (f p).toNat)
    ∧ (s.fold IntOp.minsi 2147483647#32 f = 2147483647#32 ∨ ∃ p ∈ s, s.fold IntOp.minsi 2147483647#32 f = f p) := by
  induction s using Finset.induction_on with
  | empty => exact ⟨by simp, by simp, Or.inl (by simp)⟩
  | insert a s ha ih =>
    obtain ⟨h1, h2, h3⟩ := ih
    rw [Finset.fold_insert ha]
    have hm := WordArith.toNat_minsi_of_lt (f a) _ (hf a) h1
    refine ⟨by rw [hm]; exact lt_of_le_of_lt (min_le_left _ _) (hf a), ?_, ?_⟩
    · intro p hp
      rw [hm]
      rcases Finset.mem_insert.mp hp with rfl | hp
      · exact min_le_left _ _
      · exact le_trans (min_le_right _ _) (h2 p hp)
    · rcases le_total (f a).toNat (s.fold IntOp.minsi 2147483647#32 f).toNat with h | h
      · right
        refine ⟨a, Finset.mem_insert_self _ _, BitVec.eq_of_toNat_eq ?_⟩
        rw [hm, min_eq_left h]
      · have e : IntOp.minsi (f a) (s.fold IntOp.minsi 2147483647#32 f) = s.fold IntOp.minsi 2147483647#32 f :=
          BitVec.eq_of_toNat_eq (by rw [hm, min_eq_right h])
        rw [e]
        rcases h3 with h3 | ⟨p, hp, h3⟩
        · exact Or.inl h3
        · exact Or.inr ⟨p, Finset.mem_insert_of_mem hp, h3⟩

theorem fold_minsi_pick (w : Fin 2048 → EReal) (f : Fin 2048 → BitVec 32)
    (hf : ∀ p, f p = if w p = w (pick pos2048 w) then BitVec.ofNat 32 p.val else 2048#32) :
    (Finset.univ : Finset (Fin 2048)).fold IntOp.minsi 2147483647#32 f = BitVec.ofNat 32 (pick pos2048 w).val := by
  have hnat : ∀ p : Fin 2048, (BitVec.ofNat 32 p.val).toNat = p.val := fun p => by
    rw [BitVec.toNat_ofNat]; have := p.2; omega
  have hlt : ∀ p, (f p).toNat < 2 ^ 31 := fun p => by
    rw [hf]; split
    · rw [hnat]; have := p.2; omega
    · decide
  obtain ⟨-, h2, h3⟩ := fold_minsi Finset.univ f hlt
  have hp := h2 (pick pos2048 w) (Finset.mem_univ _)
  rw [hf (pick pos2048 w), if_pos rfl, hnat] at hp
  have hpl := (pick pos2048 w).2
  rcases h3 with h3 | ⟨p, -, h3⟩
  · rw [h3] at hp
    have : (2147483647#32).toNat = 2147483647 := rfl
    omega
  · rw [h3] at hp ⊢
    rw [hf] at hp ⊢
    split at hp
    · rename_i h
      rw [if_pos h]
      rw [hnat] at hp
      have := pick_le pos2048 w p h
      rw [show p = pick pos2048 w from le_antisymm hp this]
    · have : (2048#32).toNat = 2048 := rfl
      omega

theorem ofBits_negInf : Ideal.ofBits .f32 0xFF800000#32 = ⊥ := by
  simp [Ideal.ofBits, Ideal.ieee]

variable (v8 : IVec S256x2048 32) (hv8 : ∀ (i : Fin 256) (p : Fin 2048), v8 (ix2 i p) = BitVec.ofNat 32 p.val)

/-- Row `i` of a block of scores. -/
abbrev rowOf (s : Vec Ideal S256x2048 .f32) (i : Fin 256) : Fin 2048 → EReal := fun p => s (ix2 i p)

theorem pickOf {α : Type} {s : Shape} (c : IVec s 1) (a b : s.Idx → α) (i : s.Idx) :
    select c a b i = if c i = 1#1 then a i else b i := rfl

theorem lift_row (i : Fin 256) (p : Fin 2048) :
    (reduces_S256x2048_S256).lift (ix1 i) p = ix2 i p := by
  funext a
  refine Fin.ext ?_
  match a with
  | ⟨0, _⟩ => rfl
  | ⟨1, _⟩ => rfl

theorem rowMax_apply (s : Vec Ideal S256x2048 .f32) (i : Fin 256) :
    multiReduction (F := Ideal) .maximumf [1] S256 s 0xFF800000#32 reduces_S256x2048_S256 (.inl rfl) rfl (ix1 i)
      = rowOf s i (pick pos2048 (rowOf s i)) := by
  refine (Ideal.multiReduction_maximumf_single s _ _ _ _ (ix1 i)).trans ?_
  have e : s ∘ (reduces_S256x2048_S256).lift (ix1 i) = rowOf s i := funext fun p => congrArg s (lift_row i p)
  rw [e]
  refine Eq.trans ?_ (fold_max_pick pos2048 (rowOf s i))
  rw [← ofBits_negInf]
  rfl

theorem reduceMin_single {s t : Shape} {a : Fin s.rank} (h : s.Reduces [a] t) (x : IVec s 32) (acc : BitVec 32)
    (hacc : acc = IKind.minsi.neutral) (j : t.Idx) :
    multiReductionI .minsi [a] t x acc h hacc j
      = (Finset.univ : Finset (Fin (s.size a))).fold IntOp.minsi acc (x ∘ h.lift j) := by
  rw [multiReductionI_eq_fold]
  exact h.fold_filter_drop_single IntOp.minsi acc x j

theorem rowMin_apply (x : IVec S256x2048 32) (i : Fin 256) :
    multiReductionI .minsi [1] S256 x 2147483647#32 reduces_S256x2048_S256 rfl (ix1 i)
      = (Finset.univ : Finset (Fin 2048)).fold IntOp.minsi 2147483647#32 fun p => x (ix2 i p) := by
  refine (reduceMin_single reduces_S256x2048_S256 x _ _ (ix1 i)).trans ?_
  have e : x ∘ (reduces_S256x2048_S256).lift (ix1 i) = fun p => x (ix2 i p) := funext fun p => congrArg x (lift_row i p)
  rw [e]
  rfl

theorem castCol {α : Type} (v : S256.Idx → α) (i : Fin 256) (z : Fin 1) :
    shapeCast S256x1 v shapeCasts_S256_S256x1 (ix2 i z) = v (ix1 i) := by
  pointwise

theorem bcastCol {α : Type} (v : S256x1.Idx → α) (i : Fin 256) (p : Fin 2048) :
    broadcastTo S256x2048 v broadcasts_S256x1_S256x2048 (ix2 i p) = v (ix2 i 0) := by
  pointwise

theorem bcastCol32 {α : Type} (v : S256x1.Idx → α) (i : Fin 256) (p : Fin 32) :
    broadcastTo S256x32 v broadcasts_S256x1_S256x32 (ix2 i p) = v (ix2 i 0) := by
  pointwise

theorem bcastCol64 {α : Type} (v : S256x1.Idx → α) (i : Fin 256) (p : Fin 64) :
    broadcastTo S256x64 v broadcasts_S256x1_S256x64 (ix2 i p) = v (ix2 i 0) := by
  pointwise

include hv8 in
theorem SEL_apply (s : Vec Ideal S256x2048 .f32) (i : Fin 256) (z : Fin 1) :
    SEL v8 s (ix2 i z) = BitVec.ofNat 32 (pick pos2048 (rowOf s i)).val := by
  unfold SEL k2_pay2
  dsimp only
  rw [castCol, rowMin_apply]
  refine fold_minsi_pick (rowOf s i) _ fun p => ?_
  show (if Ideal.cmp .oeq _ _ = 1#1 then _ else _) = _
  rw [bcastCol, castCol, rowMax_apply, hv8]
  by_cases h : s (ix2 i p) = rowOf s i (pick pos2048 (rowOf s i))
  · rw [if_pos h, if_pos]
    simp [Ideal.cmp, h]
  · rw [if_neg h, if_neg]
    · rfl
    · simp [Ideal.cmp, h]

include hv8 in
theorem MASK_apply (s : Vec Ideal S256x2048 .f32) (i : Fin 256) (p : Fin 2048) :
    MASK v8 s (ix2 i p) = lower pos2048 NEG (rowOf s i) p := by
  unfold MASK k2_pay3
  refine (congrFun (shapeCast_self _ _) (ix2 i p)).trans ?_
  rw [pickOf, cmpi_apply, bcastCol, hv8]
  have := SEL_apply v8 hv8 s i 0
  unfold SEL at this
  rw [this]
  unfold lower
  have e : (BitVec.ofNat 32 p.val = BitVec.ofNat 32 (pick pos2048 (rowOf s i)).val) ↔ p = pick pos2048 (rowOf s i) := by
    constructor
    · intro h
      have := congrArg BitVec.toNat h
      simp only [BitVec.toNat_ofNat] at this
      have h1 := p.2
      have h2 := (pick pos2048 (rowOf s i)).2
      exact Fin.ext (by omega)
    · intro h; rw [h]
  by_cases h : p = pick pos2048 (rowOf s i)
  · rw [if_pos h, if_pos]
    · rfl
    · simp [IntOp.cmpi, e.mpr h]
  · rw [if_neg h, if_neg]
    simp only [IntOp.cmpi]
    rw [beq_eq_false_iff_ne.mpr (mt e.mp h)]
    decide

include hv8 in
theorem rowOf_MASK (s : Vec Ideal S256x2048 .f32) (i : Fin 256) :
    rowOf (MASK v8 s) i = lower pos2048 NEG (rowOf s i) := funext fun p => MASK_apply v8 hv8 s i p

include hv8 in
theorem rowOf_SW (s : Vec Ideal S256x2048 .f32) (i : Fin 256) (t : ℕ) :
    rowOf (SW v8 s t) i = row pos2048 NEG (rowOf s i) t := by
  induction t with
  | zero => rfl
  | succ t ih =>
    show rowOf (MASK v8 (SW v8 s t)) i = lower pos2048 NEG (row pos2048 NEG (rowOf s i) t)
    rw [rowOf_MASK v8 hv8, ih]

theorem STEPI_apply (v9 : IVec S256x32 32) (hv9 : ∀ (i : Fin 256) (j : Fin 32), v9 (ix2 i j) = BitVec.ofNat 32 j.val)
    (t : ℕ) (ht : t < 32) (x : IVec S256x1 32) (acc : IVec S256x32 32) (i : Fin 256) (j : Fin 32) :
    STEPI v9 (IV t) x acc (ix2 i j) = if j.val = t then x (ix2 i 0) else acc (ix2 i j) := by
  unfold STEPI
  show (if IntOp.cmpi .eq _ (IV t) = 1#1 then _ else _) = _
  rw [bcastCol32, shapeCast_self, hv9]
  have e : (BitVec.ofNat 32 j.val = IV t) ↔ j.val = t := by
    have h1 := j.2
    have h0 : (IV t).toNat = t := by
      unfold IV Scf.iv
      simp only [BitVec.mul_one, BitVec.zero_add, BitVec.toNat_ofNat]
      omega
    constructor
    · intro h
      have := congrArg BitVec.toNat h
      rw [h0, BitVec.toNat_ofNat] at this
      omega
    · intro h
      refine BitVec.eq_of_toNat_eq ?_
      rw [h0, BitVec.toNat_ofNat]
      omega
  by_cases h : j.val = t
  · rw [if_pos h, if_pos]
    simp [IntOp.cmpi, e.mpr h]
  · rw [if_neg h, if_neg]
    simp only [IntOp.cmpi]
    rw [show (BitVec.ofNat 32 j.val == IV t) = false from beq_eq_false_iff_ne.mpr (mt e.mp h)]
    decide

include hv8 in
/-- After `t` trips, column `j` of the carried positions holds the position round `j` takes, if round `j` is over. -/
theorem IX_apply (v9 : IVec S256x32 32) (hv9 : ∀ (i : Fin 256) (j : Fin 32), v9 (ix2 i j) = BitVec.ofNat 32 j.val)
    (s : Vec Ideal S256x2048 .f32) (a : IVec S256x32 32) (i : Fin 256) (j : Fin 32) (t : ℕ) (ht : t ≤ 32) :
    IX v8 v9 s a t (ix2 i j)
      = if j.val < t then BitVec.ofNat 32 (sel pos2048 NEG (rowOf s i) j.val).val else a (ix2 i j) := by
  induction t with
  | zero => simp [IX]
  | succ t ih =>
    show STEPI v9 (IV t) (SEL v8 (SW v8 s t)) (IX v8 v9 s a t) (ix2 i j) = _
    rw [STEPI_apply v9 hv9 t (by omega), ih (by omega), SEL_apply v8 hv8, rowOf_SW v8 hv8]
    by_cases h : j.val = t
    · rw [if_pos h, if_pos (by omega)]
      subst h
      rfl
    · rw [if_neg h]
      by_cases h' : j.val < t
      · rw [if_pos h', if_pos (by omega)]
      · rw [if_neg h', if_neg (by omega)]

end

end Cert.KernelIdeal.Attn
-- ==== Proof.AttnOut.lean ====
module

public import proofs.«01_k».proof.Proof.Gen.KernelIdeal.Frame
public import proofs.«01_k».proof.Proof.AttnRun
public import proofs.«01_k».proof.Proof.AttnRow
public import Idealize.ShloMosaic.Lib.Pipeline.Value
public import Idealize.ShloMosaic.Lib.VecWindow

/-! What one run of the attention kernel's body leaves in its two output blocks, as functions of its input blocks. -/

@[expose] public section

set_option maxRecDepth 16384

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

noncomputable section

variable {F : FTy → Type} [FloatOps F]

/-- The heads' outputs side by side. -/
def ATALL (x1 : Vec F S256x1024 .f32) (x2 x3 : Vec F S2048x1024 .f32) (x4 : Vec F S2048x64 .f32)
    (x5 : Vec F S256x64 .f32) (x6 : Vec F S256x2048 .f32) : Vec F S256x1024 .f32 := fun y =>
  ATH x1 x2 x3 x4 x5 x6 ⟨(y 1).val / 64, by have : (y 1).val < 1024 := (y 1).isLt; omega⟩
    (ix2 (y 0) ⟨(y 1).val % 64, Nat.mod_lt _ (by decide)⟩)

/-- The heads' chosen positions. -/
def IXALL (x1 : Vec F S256x1024 .f32) (x2 : Vec F S2048x1024 .f32) (x4 : Vec F S2048x64 .f32)
    (x5 : Vec F S256x64 .f32) (x6 : Vec F S256x2048 .f32) : IVec S16x256x32 32 := fun y =>
  IX kernelRun2_A.sl.v8 kernelRun2_A.sl.v9 (SCH x1 x2 x4 x5 x6 (y 0)) k2_pay77 32 (ix2 (y 1) (y 2))

theorem at_emb {x1 : Vec F S256x1024 .f32} {x2 x3 : Vec F S2048x1024 .f32} {x4 : Vec F S2048x64 .f32}
    {x5 : Vec F S256x64 .f32} {x6 : Vec F S256x2048 .f32} (h : Fin 16) (x : S256x64.Idx) {n : ℕ} (hn : n = 64 * h.val)
    (inb : ∀ a, (![0, n] : Fin 2 → ℕ) a + S256x64.size a ≤ S256x1024.size a) :
    ATH x1 x2 x3 x4 x5 x6 h x
      = ATALL x1 x2 x3 x4 x5 x6 ((Rect.unit (s := S256x1024) ![0, n] S256x64.size inb).emb x) := by
  subst hn
  have hx1 : (x 1).val < 64 := (x 1).isLt
  have e0 : (((Rect.unit (s := S256x1024) ![0, 64 * h.val] S256x64.size inb).emb x) 0).val = (x 0).val := by
    show 0 + 1 * (x 0).val = _; omega
  have e1 : (((Rect.unit (s := S256x1024) ![0, 64 * h.val] S256x64.size inb).emb x) 1).val = 64 * h.val + (x 1).val := by
    show 64 * h.val + 1 * (x 1).val = _; omega
  unfold ATALL
  have a1 : (⟨(((Rect.unit (s := S256x1024) ![0, 64 * h.val] S256x64.size inb).emb x) 1).val / 64, by rw [e1]; omega⟩ : Fin 16) = h :=
    Fin.ext (by show _ / 64 = _; rw [e1]; omega)
  have a2 : (ix2 (((Rect.unit (s := S256x1024) ![0, 64 * h.val] S256x64.size inb).emb x) 0)
      (⟨(((Rect.unit (s := S256x1024) ![0, 64 * h.val] S256x64.size inb).emb x) 1).val % 64, Nat.mod_lt _ (by decide)⟩ : Fin 64) : S256x64.Idx) = x := by
    funext a
    fin_cases a
    · exact Fin.ext e0
    · exact Fin.ext (by show _ % 64 = (x 1).val; rw [e1]; omega)
  exact (congr (congrArg (ATH x1 x2 x3 x4 x5 x6) a1) a2).symm

theorem ix_emb {x1 : Vec F S256x1024 .f32} {x2 : Vec F S2048x1024 .f32} {x4 : Vec F S2048x64 .f32}
    {x5 : Vec F S256x64 .f32} {x6 : Vec F S256x2048 .f32} {sc : FVec F S256x2048 .f32} {w a : IVec S256x32 32} (h : Fin 16)
    (hw : w = IX kernelRun2_A.sl.v8 kernelRun2_A.sl.v9 sc a 32) (hs : sc = SCH x1 x2 x4 x5 x6 h) (ha : a = k2_pay77)
    (x : S1x256x32.Idx) {n : ℕ} (hn : n = h.val)
    (inb : ∀ a, (![n, 0, 0] : Fin 3 → ℕ) a + (![1, 256, 32] : Fin 3 → ℕ) a ≤ S16x256x32.size a) :
    shapeCast S1x256x32 w shapeCasts_S256x32_S1x256x32 x
      = IXALL x1 x2 x4 x5 x6 ((Rect.unit (s := S16x256x32) ![n, 0, 0] ![1, 256, 32] inb).emb x) := by
  subst hn hs ha hw
  have hx0 : (x 0).val < 1 := (x 0).isLt
  have e0 : (((Rect.unit (s := S16x256x32) ![h.val, 0, 0] ![1, 256, 32] inb).emb x) 0) = h :=
    Fin.ext (by show h.val + 1 * (x 0).val = _; omega)
  have e1 : (((Rect.unit (s := S16x256x32) ![h.val, 0, 0] ![1, 256, 32] inb).emb x) 1) = (x 1 : Fin 256) :=
    Fin.ext (by show 0 + 1 * (x 1).val = _; omega)
  have e2 : (((Rect.unit (s := S16x256x32) ![h.val, 0, 0] ![1, 256, 32] inb).emb x) 2) = (x 2 : Fin 32) :=
    Fin.ext (by show 0 + 1 * (x 2).val = _; omega)
  unfold IXALL
  rw [e0, e1, e2]
  refine (shapeCast_addUnit_apply _ _ _ x).trans (congrArg _ ?_)
  funext a
  fin_cases a <;> rfl

variable {c : Dev nD} {i : grid2.Coords} {arg1 : Memref sig .tc .smem S4 .f32} {harg1 : arg1.IsWhole} {arg2 : Memref sig .tc .vmem S256x1024 .f32} {harg2 : arg2.IsWhole} {arg3 : Memref sig .tc .vmem S2048x1024 .f32} {harg3 : arg3.IsWhole} {arg4 : Memref sig .tc .vmem S2048x1024 .f32} {harg4 : arg4.IsWhole} {arg5 : Memref sig .tc .vmem S2048x64 .f32} {harg5 : arg5.IsWhole} {arg6 : Memref sig .tc .vmem S256x64 .f32} {harg6 : arg6.IsWhole} {arg7 : Memref sig .tc .vmem S256x2048 .f32} {harg7 : arg7.IsWhole} {arg8 : Memref sig .tc .vmem S256x1024 .f32} {harg8 : arg8.IsWhole} {arg9 : Memref sig .tc .vmem S1024x1024 .f32} {harg9 : arg9.IsWhole} {arg10 : Memref sig .tc .vmem S256x1024 .f32} {harg10 : arg10.IsWhole} {arg11 : Memref sig .tc .vmem S16x256x32 .i32} {harg11 : arg11.IsWhole} {arg12 : Memref sig .tc .vmem S256x2048 .f32} {harg12 : arg12.IsWhole} {arg13 : Memref sig .tc .vmem S256x2048 .f32} {harg13 : arg13.IsWhole} {arg14 : Memref sig .tc .vmem S256x2048 .f32} {harg14 : arg14.IsWhole} {arg15 : Memref sig .tc .vmem S256x2048 .f32} {harg15 : arg15.IsWhole} {arg16 : Memref sig .tc .vmem S256x1024 .f32} {harg16 : arg16.IsWhole}
    {x0 : Vec F S4 .f32} {x1 : Vec F S256x1024 .f32} {x2 : Vec F S2048x1024 .f32} {x3 : Vec F S2048x1024 .f32} {x4 : Vec F S2048x64 .f32} {x5 : Vec F S256x64 .f32} {x6 : Vec F S256x2048 .f32} {x7 : Vec F S256x1024 .f32} {x8 : Vec F S1024x1024 .f32}

theorem atE : (kernelRun2_A.sl.v792 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6) = ATALL x1 x2 x3 x4 x5 x6 := by
  have hc : ∀ y, ∃ p ∈ (kernelRun2_A.sl.HS4_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6), y ∈ p.1.set :=
    View.cover_of_tiledL (kernelRun2_A.sl.HS4_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6) S256x64.size (by sl_kernel_rfl)
  have hp : ∀ p ∈ (kernelRun2_A.sl.HS4_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6), ∀ x : p.1.shape.Idx, p.2 x = ATALL x1 x2 x3 x4 x5 x6 (p.1.emb x) := by
    unfold kernelRun2_A.sl.HS4_16
    exact List.forall_mem_cons.2 ⟨fun x => (congrFun head15 x).trans (at_emb 15 x rfl inb_S256x1024_S256x64_0_960),
      List.forall_mem_cons.2 ⟨fun x => (congrFun head14 x).trans (at_emb 14 x rfl inb_S256x1024_S256x64_0_896),
      List.forall_mem_cons.2 ⟨fun x => (congrFun head13 x).trans (at_emb 13 x rfl inb_S256x1024_S256x64_0_832),
      List.forall_mem_cons.2 ⟨fun x => (congrFun head12 x).trans (at_emb 12 x rfl inb_S256x1024_S256x64_0_768),
      List.forall_mem_cons.2 ⟨fun x => (congrFun head11 x).trans (at_emb 11 x rfl inb_S256x1024_S256x64_0_704),
      List.forall_mem_cons.2 ⟨fun x => (congrFun head10 x).trans (at_emb 10 x rfl inb_S256x1024_S256x64_0_640),
      List.forall_mem_cons.2 ⟨fun x => (congrFun head9 x).trans (at_emb 9 x rfl inb_S256x1024_S256x64_0_576),
      List.forall_mem_cons.2 ⟨fun x => (congrFun head8 x).trans (at_emb 8 x rfl inb_S256x1024_S256x64_0_512),
      List.forall_mem_cons.2 ⟨fun x => (congrFun head7 x).trans (at_emb 7 x rfl inb_S256x1024_S256x64_0_448),
      List.forall_mem_cons.2 ⟨fun x => (congrFun head6 x).trans (at_emb 6 x rfl inb_S256x1024_S256x64_0_384),
      List.forall_mem_cons.2 ⟨fun x => (congrFun head5 x).trans (at_emb 5 x rfl inb_S256x1024_S256x64_0_320),
      List.forall_mem_cons.2 ⟨fun x => (congrFun head4 x).trans (at_emb 4 x rfl inb_S256x1024_S256x64_0_256),
      List.forall_mem_cons.2 ⟨fun x => (congrFun head3 x).trans (at_emb 3 x rfl inb_S256x1024_S256x64_0_192),
      List.forall_mem_cons.2 ⟨fun x => (congrFun head2 x).trans (at_emb 2 x rfl inb_S256x1024_S256x64_0_128),
      List.forall_mem_cons.2 ⟨fun x => (congrFun head1 x).trans (at_emb 1 x rfl inb_S256x1024_S256x64_0_64),
      List.forall_mem_cons.2 ⟨fun x => (congrFun head0 x).trans (at_emb 0 x rfl inb_S256x1024_S256x64_0_0),
      List.forall_mem_nil _⟩⟩⟩⟩⟩⟩⟩⟩⟩⟩⟩⟩⟩⟩⟩⟩
  unfold kernelRun2_A.sl.v792
  rw [View.readCov_eq_canon_ld _ _ _ hc]
  refine (View.ld_unit_zero offz _ _).trans (funext fun y => View.canon_apply_of_pieces _ _ hp y (hc y))

theorem out9 : out2_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
    = k2_pay1 (x0 (ix1 (2 : Fin 4))) x7 (ATALL x1 x2 x3 x4 x5 x6) x8 := by
  have hL : (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1 = [⟨Rect.unit (s := S256x1024) ![0, 0] ![256, 1024] inb_S256x1024_S256x1024_0_0,
      k2_pay1 (kernelRun2_A.sl.r c arg1 harg1 x0)
        (View.readAt (Elt F) arg8.view (Rect.unit (s := S256x1024) ![0, 0] ![256, 1024] inb_S256x1024_S256x1024_0_0).toLoadRect (harg8.unread x7))
        (kernelRun2_A.sl.v792 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6)
        (View.readAt (Elt F) arg9.view (Rect.unit (s := S1024x1024) ![0, 0] ![1024, 1024] inb_S1024x1024_S1024x1024_0_0).toLoadRect (harg9.unread x8))⟩] := by
    unfold kernelRun2_A; rfl
  have hr : (kernelRun2_A.sl.r c arg1 harg1 x0) = x0 (ix1 (2 : Fin 4)) := by
    unfold kernelRun2_A.sl.r
    rw [rdE]
    exact congrArg x0 (funext fun a => Fin.ext (by fin_cases a; rfl))
  unfold out2_A_9
  rw [hL]
  refine (View.read_writes_full _ _ _ _ _).trans ?_
  rw [hr, atE, rdE, rdE]
  exact congr (congr rfl (View.ld_unit_zero offz _ _) |> fun h => congrFun h _) (View.ld_unit_zero offz _ _)

theorem out10 : out2_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = IXALL x1 x2 x4 x5 x6 := by
  have hc := cover2_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
  have hp : ∀ p ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).2.1, ∀ x : p.1.shape.Idx, p.2 x = IXALL x1 x2 x4 x5 x6 (p.1.emb x) := by
    unfold kernelRun2_A
    exact List.forall_mem_cons.2 ⟨fun x => ix_emb 15 ixE15 scE15 rfl x rfl inb_S16x256x32_S1x256x32_15_0_0,
      List.forall_mem_cons.2 ⟨fun x => ix_emb 14 ixE14 scE14 rfl x rfl inb_S16x256x32_S1x256x32_14_0_0,
      List.forall_mem_cons.2 ⟨fun x => ix_emb 13 ixE13 scE13 rfl x rfl inb_S16x256x32_S1x256x32_13_0_0,
      List.forall_mem_cons.2 ⟨fun x => ix_emb 12 (ixCov arg12 _ (pr1 (loop4 (ht := (trips4).le) ..).1) trips4 rfl (shapeCast_self _ _)) scE12 rfl x rfl inb_S16x256x32_S1x256x32_12_0_0,
      List.forall_mem_cons.2 ⟨fun x => ix_emb 11 ixE11 scE11 rfl x rfl inb_S16x256x32_S1x256x32_11_0_0,
      List.forall_mem_cons.2 ⟨fun x => ix_emb 10 ixE10 scE10 rfl x rfl inb_S16x256x32_S1x256x32_10_0_0,
      List.forall_mem_cons.2 ⟨fun x => ix_emb 9 ixE9 scE9 rfl x rfl inb_S16x256x32_S1x256x32_9_0_0,
      List.forall_mem_cons.2 ⟨fun x => ix_emb 8 (ixCov arg12 _ (pr1 (loop3 (ht := (trips3).le) ..).1) trips3 rfl (shapeCast_self _ _)) scE8 rfl x rfl inb_S16x256x32_S1x256x32_8_0_0,
      List.forall_mem_cons.2 ⟨fun x => ix_emb 7 ixE7 scE7 rfl x rfl inb_S16x256x32_S1x256x32_7_0_0,
      List.forall_mem_cons.2 ⟨fun x => ix_emb 6 ixE6 scE6 rfl x rfl inb_S16x256x32_S1x256x32_6_0_0,
      List.forall_mem_cons.2 ⟨fun x => ix_emb 5 ixE5 scE5 rfl x rfl inb_S16x256x32_S1x256x32_5_0_0,
      List.forall_mem_cons.2 ⟨fun x => ix_emb 4 ixE4 scE4 rfl x rfl inb_S16x256x32_S1x256x32_4_0_0,
      List.forall_mem_cons.2 ⟨fun x => ix_emb 3 ixE3 scE3 rfl x rfl inb_S16x256x32_S1x256x32_3_0_0,
      List.forall_mem_cons.2 ⟨fun x => ix_emb 2 ixE2 scE2 rfl x rfl inb_S16x256x32_S1x256x32_2_0_0,
      List.forall_mem_cons.2 ⟨fun x => ix_emb 1 ixE1 scE1 rfl x rfl inb_S16x256x32_S1x256x32_1_0_0,
      List.forall_mem_cons.2 ⟨fun x => ix_emb 0 (ixCov arg12 _ (pr1 (loop1 (ht := (trips1).le) ..).1) trips1 rfl (shapeCast_self _ _)) scE0 rfl x rfl inb_S16x256x32_S1x256x32_0_0_0,
      List.forall_mem_nil _⟩⟩⟩⟩⟩⟩⟩⟩⟩⟩⟩⟩⟩⟩⟩⟩
  unfold out2_A_10
  rw [View.read_writes_eq_canon _ _ _ hc]
  exact funext fun y => View.canon_apply_of_pieces _ _ hp y (hc y)

end

end Cert.KernelIdeal.Attn
-- ==== Proof.Body.lean ====
module

public import proofs.«01_k».proof.Proof.AttnOut

/-! The kernel's block computations read at one position, over exact numbers. -/

@[expose] public section

set_option maxRecDepth 16384

namespace Cert.KernelIdeal.Body

open Cert.KernelIdeal Cert.KernelIdeal.Gen Cert.Rows Cert.KernelIdeal.Attn
open Idealize.ShloMosaic Idealize.ShloMosaic.TcCoe

noncomputable section

theorem xn_apply (v0 : EReal) (x : Vec Ideal S256x1024 .f32) (rs : Vec Ideal S256x1 .f32) (nw : Vec Ideal S1x1024 .f32)
    (i : Fin 256) (j : Fin 1024) :
    k0_pay1 (F := Ideal) v0 x rs nw (ix2 i j) = x (ix2 i j) * v0 * rs (ix2 i 0) * nw (ix2 0 j) := by
  unfold k0_pay1
  pointwise

theorem q_apply (v0 : EReal) (x : Vec Ideal S256x1024 .f32) (rs : Vec Ideal S256x1 .f32) (nw : Vec Ideal S1x1024 .f32)
    (w : Vec Ideal S1024x1024 .f32) (i : Fin 256) (j : Fin 1024) :
    k0_pay2 (F := Ideal) v0 x rs nw w (ix2 i j) = ∑ k : Fin 1024, k0_pay1 (F := Ideal) v0 x rs nw (ix2 i k) * w (ix2 k j) := by
  unfold k0_pay2
  generalize k0_pay1 (F := Ideal) v0 x rs nw = y
  pointwise

theorem g_apply (v0 : EReal) (x : Vec Ideal S256x1024 .f32) (rs : Vec Ideal S256x1 .f32) (nw : Vec Ideal S1x1024 .f32)
    (w : Vec Ideal S1024x64 .f32) (i : Fin 256) (j : Fin 64) :
    k0_pay5 (F := Ideal) v0 x rs nw w (ix2 i j) = ∑ k : Fin 1024, k0_pay1 (F := Ideal) v0 x rs nw (ix2 i k) * w (ix2 k j) := by
  unfold k0_pay5
  generalize k0_pay1 (F := Ideal) v0 x rs nw = y
  pointwise

/-- The smooth gate the hidden layer is passed through. -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

theorem f_apply (v0 : EReal) (x : Vec Ideal S256x1024 .f32) (w1 : Vec Ideal S1024x4096 .f32) (b1 : Vec Ideal S1x4096 .f32)
    (w2 : Vec Ideal S4096x1024 .f32) (b2 : Vec Ideal S1x1024 .f32) (i : Fin 256) (j : Fin 1024) :
    k1_pay1 (F := Ideal) v0 x w1 b1 w2 b2 (ix2 i j)
      = v0 * ((∑ m : Fin 4096, gelu ((∑ k : Fin 1024, x (ix2 i k) * w1 (ix2 k m)) + b1 (ix2 0 m)) * w2 (ix2 m j)) + b2 (ix2 0 j)) := by
  unfold k1_pay1 gelu
  pointwise

theorem out_apply (v0 : EReal) (f at' : Vec Ideal S256x1024 .f32) (wo : Vec Ideal S1024x1024 .f32) (i : Fin 256) (j : Fin 1024) :
    k2_pay1 (F := Ideal) v0 f at' wo (ix2 i j) = f (ix2 i j) + v0 * ∑ k : Fin 1024, at' (ix2 i k) * wo (ix2 k j) := by
  unfold k2_pay1
  pointwise

theorem adj_apply (gq : Vec Ideal S256x64 .f32) (g : Vec Ideal S2048x64 .f32) (i : Fin 256) (j : Fin 2048) :
    k2_pay62 (F := Ideal) gq g (ix2 i j) = (∑ d : Fin 64, gq (ix2 i d) * g (ix2 j d)) * Ideal.ofBits .f32 0x3E000000#32 := by
  unfold k2_pay62
  pointwise

theorem sc_apply (a : Vec Ideal S256x2048 .f32) (q : Vec Ideal S256x64 .f32) (k : Vec Ideal S2048x64 .f32) (b : Vec Ideal S256x2048 .f32)
    (i : Fin 256) (j : Fin 2048) :
    SC (F := Ideal) a q k b (ix2 i j)
      = (∑ d : Fin 64, q (ix2 i d) * k (ix2 j d)) * Ideal.ofBits .f32 0x3E000000#32 + b (ix2 i j) + a (ix2 i j) := by
  unfold SC k2_pay70
  pointwise

theorem mx_apply (s : Vec Ideal S256x2048 .f32) (i : Fin 256) (z : Fin 1) :
    MX (F := Ideal) s (ix2 i z) = rowOf s i (pick pos2048 (rowOf s i)) := by
  unfold MX k2_pay121
  dsimp only
  rw [castCol, rowMax_apply]

/-- A row of weights: the exponential over the largest score, kept where `t` marks. -/
def wt (s t : Fin 2048 → EReal) (p : Fin 2048) : EReal :=
  if t p = NEG then Ideal.exp (s p - s (pick pos2048 s)) else 0

theorem at_apply (a : Vec Ideal S256x2048 .f32) (q : Vec Ideal S256x64 .f32) (k : Vec Ideal S2048x64 .f32) (b : Vec Ideal S256x2048 .f32)
    (v : Vec Ideal S2048x64 .f32) (i : Fin 256) (d : Fin 64) :
    AT (F := Ideal) a q k b v (ix2 i d)
      = Ideal.div (∑ p : Fin 2048, wt (rowOf (SC a q k b) i) (rowOf (SW kernelRun2_A.sl.v8 (SC a q k b) 32) i) p * v (ix2 p d))
          (∑ p : Fin 2048, wt (rowOf (SC a q k b) i) (rowOf (SW kernelRun2_A.sl.v8 (SC a q k b) 32) i) p) := by
  have e : ∀ j, (∑ d : Fin 64, q (ix2 i d) * k (ix2 j d)) * Ideal.ofBits .f32 0x3E000000#32 + b (ix2 i j) + a (ix2 i j)
      = SC a q k b (ix2 i j) := fun j => (sc_apply a q k b i j).symm
  unfold AT
  generalize SC (F := Ideal) a q k b = s at *
  have em := mx_apply s i 0
  generalize MX (F := Ideal) s = m at *
  generalize SW (F := Ideal) kernelRun2_A.sl.v8 s 32 = t at *
  unfold k2_pay92
  pointwise
  simp only [e, em]
  rfl

theorem hv8 (i : Fin 256) (p : Fin 2048) : kernelRun2_A.sl.v8 (ix2 i p) = BitVec.ofNat 32 p.val := by
  unfold kernelRun2_A.sl.v8
  pointwise

theorem hv9 (i : Fin 256) (p : Fin 32) : kernelRun2_A.sl.v9 (ix2 i p) = BitVec.ofNat 32 p.val := by
  unfold kernelRun2_A.sl.v9
  pointwise

/-- The `r`-th largest position of a row, ties to the left. -/
abbrev top (s : Fin 2048 → EReal) (r : Fin 32) : Fin 2048 := sel pos2048 NEG s r.val

/-- The unnormalised weight of the `r`-th largest position. -/
def topW (s : Fin 2048 → EReal) (r : Fin 32) : EReal := Ideal.exp (s (top s r) - s (pick pos2048 s))

/-- Attention of one row over its largest positions. -/
def attn (s v : Fin 2048 → EReal) : EReal := Ideal.div (∑ r : Fin 32, topW s r * v (top s r)) (∑ r : Fin 32, topW s r)

theorem wt_sum (s : Fin 2048 → EReal) (hc : ∀ p, NEG < s p) (v : Fin 2048 → EReal) :
    (∑ p : Fin 2048, wt s (row pos2048 NEG s 32) p * v p) = ∑ r : Fin 32, topW s r * v (top s r) := by
  refine Eq.trans ?_ (sum_lowered pos2048 NEG s hc 32 (by decide) fun p => Ideal.exp (s p - s (pick pos2048 s)) * v p)
  refine Finset.sum_congr rfl fun p _ => ?_
  unfold wt
  split_ifs
  · rfl
  · exact zero_mul _

theorem wt_sum_one (s : Fin 2048 → EReal) (hc : ∀ p, NEG < s p) :
    (∑ p : Fin 2048, wt s (row pos2048 NEG s 32) p) = ∑ r : Fin 32, topW s r := by
  have h := wt_sum s hc fun _ => 1
  simpa using h

theorem at_top (a : Vec Ideal S256x2048 .f32) (q : Vec Ideal S256x64 .f32) (k : Vec Ideal S2048x64 .f32) (b : Vec Ideal S256x2048 .f32)
    (v : Vec Ideal S2048x64 .f32) (i : Fin 256) (d : Fin 64) (hc : ∀ p, NEG < rowOf (SC a q k b) i p) :
    AT (F := Ideal) a q k b v (ix2 i d) = attn (rowOf (SC a q k b) i) fun p => v (ix2 p d) := by
  rw [at_apply, rowOf_SW _ hv8, wt_sum _ hc, wt_sum_one _ hc]
  rfl

theorem ix_top (s : Vec Ideal S256x2048 .f32) (a : IVec S256x32 32) (i : Fin 256) (j : Fin 32) :
    IX kernelRun2_A.sl.v8 kernelRun2_A.sl.v9 s a 32 (ix2 i j) = BitVec.ofNat 32 (top (rowOf s i) j).val := by
  rw [IX_apply _ hv8 _ hv9 s a i j 32 (le_refl _), if_pos j.isLt]

end

end Cert.KernelIdeal.Body
-- ==== Proof.Spec.lean ====
module

public import proofs.«01_k».proof.Proof.Body

/-! The attention layer over exact numbers: scores, their largest positions, and the value read through them. -/

@[expose] public section

namespace Cert.Spec

open Cert.Rows Cert.KernelIdeal.Attn Cert.KernelIdeal.Body
open Idealize.ShloMosaic

noncomputable section

/-- Column `d` of head `h`. -/
abbrev hd (h : Fin 16) (d : Fin 64) : Fin 1024 := ⟨64 * h.val + d.val, by omega⟩

/-- The head a column lies in. -/
abbrev hOf (k : Fin 1024) : Fin 16 := ⟨k.val / 64, by omega⟩

/-- One eighth. -/
abbrev EIGHTH : EReal := Ideal.ofBits .f32 0x3E000000#32

/-- The score of key `p` for query `n` in head `h`. -/
def score (Q K : Fin 2048 → Fin 1024 → EReal) (G : Fin 2048 → Fin 64 → EReal) (B : Fin 2048 → Fin 2048 → EReal)
    (h : Fin 16) (n p : Fin 2048) : EReal :=
  (∑ d : Fin 64, Q n (hd h d) * K p (hd h d)) * EIGHTH + B n p + (∑ d : Fin 64, G n d * G p d) * EIGHTH

/-- The layer's output. -/
def out (S : Fin 16 → Fin 2048 → Fin 2048 → EReal) (V : Fin 2048 → Fin 1024 → EReal) (b : EReal)
    (f : Fin 2048 → Fin 1024 → EReal) (Wo : Fin 1024 → Fin 1024 → EReal) (n : Fin 2048) (j : Fin 1024) : EReal :=
  f n j + b * ∑ k : Fin 1024, attn (S (hOf k) n) (fun p => V p k) * Wo k j

/-- The normalised input. -/
def nrm (s : EReal) (X : Fin 2048 → Fin 1024 → EReal) (r : Fin 2048 → EReal) (w : Fin 1024 → EReal) (n : Fin 2048) (j : Fin 1024) : EReal :=
  X n j * s * r n * w j

/-- A product of the normalised input with a weight matrix. -/
def proj {k : ℕ} (X : Fin 2048 → Fin 1024 → EReal) (W : Fin 1024 → Fin k → EReal) (n : Fin 2048) (j : Fin k) : EReal :=
  ∑ i : Fin 1024, X n i * W i j

/-- The feed-forward branch. -/
def ffn (a : EReal) (X : Fin 2048 → Fin 1024 → EReal) (W1 : Fin 1024 → Fin 4096 → EReal) (b1 : Fin 4096 → EReal)
    (W2 : Fin 4096 → Fin 1024 → EReal) (b2 : Fin 1024 → EReal) (n : Fin 2048) (j : Fin 1024) : EReal :=
  a * ((∑ m : Fin 4096, gelu ((∑ k : Fin 1024, X n k * W1 k m) + b1 m) * W2 m j) + b2 j)

/-- The sigmoid of a number. -/
def sig1 (v : EReal) : EReal := Ideal.div 1 (1 + Ideal.exp (-v))

/-- The reciprocal root of a row's mean square. -/
def rms (x : Fin 2048 → Fin 1024 → EReal) (s : EReal) (n : Fin 2048) : EReal :=
  Ideal.rsqrt (Ideal.div (∑ j : Fin 1024, (s * x n j) * (s * x n j)) (Ideal.ofBits .f32 0x44800000#32) + Ideal.ofBits .f32 0x358637BD#32)

/-- The layer's arguments, each read at its coordinates. -/
structure Inp where
  /-- the input -/
  x : Fin 2048 → Fin 1024 → EReal
  /-- the bias of the scores -/
  b : Fin 2048 → Fin 2048 → EReal
  /-- the weight of the normalisation -/
  nw : Fin 1024 → EReal
  /-- the query weights -/
  wq : Fin 1024 → Fin 1024 → EReal
  /-- the key weights -/
  wk : Fin 1024 → Fin 1024 → EReal
  /-- the value weights -/
  wv : Fin 1024 → Fin 1024 → EReal
  /-- the output weights -/
  wo : Fin 1024 → Fin 1024 → EReal
  /-- the graph weights -/
  wg : Fin 1024 → Fin 64 → EReal
  /-- the first feed-forward weights -/
  w1 : Fin 1024 → Fin 4096 → EReal
  /-- the first feed-forward bias -/
  b1 : Fin 4096 → EReal
  /-- the second feed-forward weights -/
  w2 : Fin 4096 → Fin 1024 → EReal
  /-- the second feed-forward bias -/
  b2 : Fin 1024 → EReal
  /-- the feed-forward gate -/
  al : EReal
  /-- the attention gate -/
  be : EReal
  /-- the input gate -/
  ga : EReal

/-- The arguments of a launch. -/
def inp (x0 : FVec Ideal ⟨3, ![1, 2048, 1024]⟩ .f32) (x1 : FVec Ideal ⟨4, ![1, 1, 2048, 2048]⟩ .f32) (x2 : FVec Ideal ⟨1, ![1024]⟩ .f32)
    (x3 x4 x5 x6 : FVec Ideal ⟨2, ![1024, 1024]⟩ .f32) (x7 : FVec Ideal ⟨2, ![1024, 64]⟩ .f32) (x8 : FVec Ideal ⟨2, ![1024, 4096]⟩ .f32)
    (x9 : FVec Ideal ⟨1, ![4096]⟩ .f32) (x10 : FVec Ideal ⟨2, ![4096, 1024]⟩ .f32) (x11 : FVec Ideal ⟨1, ![1024]⟩ .f32)
    (x12 x13 x14 : FVec Ideal ⟨0, ![]⟩ .f32) : Inp where
  x n j := x0 (ix3 (0 : Fin 1) n j)
  b n p := x1 (ix4 (0 : Fin 1) (0 : Fin 1) n p)
  nw j := x2 (ix1 j)
  wq i j := x3 (ix2 i j)
  wk i j := x4 (ix2 i j)
  wv i j := x5 (ix2 i j)
  wo i j := x6 (ix2 i j)
  wg i j := x7 (ix2 i j)
  w1 i j := x8 (ix2 i j)
  b1 j := x9 (ix1 j)
  w2 i j := x10 (ix2 i j)
  b2 j := x11 (ix1 j)
  al := x12 ValueIdx.ix0
  be := x13 ValueIdx.ix0
  ga := x14 ValueIdx.ix0

/-- The normalised input of the arguments. -/
def Inp.xn (I : Inp) : Fin 2048 → Fin 1024 → EReal := nrm (sig1 I.ga) I.x (rms I.x (sig1 I.ga)) I.nw

/-- The scores of the arguments. -/
def Inp.s (I : Inp) : Fin 16 → Fin 2048 → Fin 2048 → EReal := score (proj I.xn I.wq) (proj I.xn I.wk) (proj I.xn I.wg) I.b

/-- The layer's output at the arguments. -/
def Inp.out (I : Inp) : Fin 2048 → Fin 1024 → EReal :=
  Spec.out I.s (proj I.xn I.wv) (sig1 I.be) (ffn (sig1 I.al) I.xn I.w1 I.b1 I.w2 I.b2) I.wo

/-- The output as an array. -/
def Inp.out3 (I : Inp) (y : (⟨3, ![1, 2048, 1024]⟩ : Shape).Idx) : EReal := I.out (y 1) (y 2)

/-- The largest positions as an array. -/
def Inp.idx4 (I : Inp) (y : (⟨4, ![1, 16, 2048, 32]⟩ : Shape).Idx) : BitVec 32 := BitVec.ofNat 32 (top (I.s (y 1) (y 2)) (y 3)).val

end

end Cert.Spec
-- ==== Proof.Reg0.lean ====
module

public import proofs.«01_k».proof.Proof.Spec
public import Idealize.ShloMosaic.Lib.Pipeline.ValueKit.Geometry
public import Idealize.ShloMosaic.Lib.Pipeline.ValueKit.Acc

/-! The projection launch: its five arrays as functions of the arrays it reads, over exact numbers. -/

@[expose] public section

set_option maxRecDepth 16384

namespace Cert.KernelIdeal.Reg0

open Cert.KernelIdeal Cert.KernelIdeal.Gen Cert.Rows Cert.KernelIdeal.Attn Cert.KernelIdeal.Body Cert.Spec
open Idealize.ShloMosaic Idealize.ShloMosaic.TcCoe

noncomputable section

/-- Row `r` of block `t`. -/
abbrev at8 (t : ℕ) (ht : t < 8) (r : Fin 256) : Fin 2048 := ⟨256 * t + r.val, by omega⟩

variable (V : (c : Dev nD) → (b : Ref sig .tc) → Buf (Elt Ideal) ((c : Thread nD τ).loc b)) (c : Dev nD)

theorem lt8 (t : Fin cfg0.N) : t.val < 8 := t.isLt

theorem e0 : ∀ t : Fin cfg0.N, win0_0.index t = ![0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)

theorem b0 (t : Fin cfg0.N) (i : Fin 4) : iblk0 V c 0 t (ix1 i) = V c main_v18 (ix1 i) := by
  blk_simp [iblk0]
  exact congrArg (V c main_v18) (by blk_ext [e0])

theorem b1 (t : Fin cfg0.N) (r : Fin 256) (j : Fin 1024) : iblk0 V c 1 t (ix2 r j) = V c main_v0 (ix2 (at8 t (lt8 t) r) j) := by
  blk_simp [iblk0]
  exact congrArg (V c main_v0) (by blk_ext [e1])

theorem b2 (t : Fin cfg0.N) (r : Fin 256) (j : Fin 1) : iblk0 V c 2 t (ix2 r j) = V c main_v32 (ix2 (at8 t (lt8 t) r) j) := by
  blk_simp [iblk0]
  exact congrArg (V c main_v32) (by blk_ext [e2])

theorem b3 (t : Fin cfg0.N) (r : Fin 1) (j : Fin 1024) : iblk0 V c 3 t (ix2 r j) = V c main_v33 (ix2 r j) := by
  blk_simp [iblk0]
  exact congrArg (V c main_v33) (by blk_ext [e3])

theorem b4 (t : Fin cfg0.N) (r : Fin 1024) (j : Fin 1024) : iblk0 V c 4 t (ix2 r j) = V c main_arg3 (ix2 r j) := by
  blk_simp [iblk0]
  exact congrArg (V c main_arg3) (by blk_ext [e4])

theorem b5 (t : Fin cfg0.N) (r : Fin 1024) (j : Fin 1024) : iblk0 V c 5 t (ix2 r j) = V c main_arg4 (ix2 r j) := by
  blk_simp [iblk0]
  exact congrArg (V c main_arg4) (by blk_ext [e5])

theorem b6 (t : Fin cfg0.N) (r : Fin 1024) (j : Fin 1024) : iblk0 V c 6 t (ix2 r j) = V c main_arg5 (ix2 r j) := by
  blk_simp [iblk0]
  exact congrArg (V c main_arg5) (by blk_ext [e6])

theorem b7 (t : Fin cfg0.N) (r : Fin 1024) (j : Fin 64) : iblk0 V c 7 t (ix2 r j) = V c main_arg7 (ix2 r j) := by
  blk_simp [iblk0]
  exact congrArg (V c main_arg7) (by blk_ext [e7])

theorem emb8 (t : Fin cfg0.N) (r : Fin 256) (j : Fin 1024) :
    ((cfg0.win 8).blk t).view.emb (ix2 r j) = ix2 (at8 t (lt8 t) r) j := by
  blk_ext [e8]

theorem emb9 (t : Fin cfg0.N) (r : Fin 256) (j : Fin 1024) :
    ((cfg0.win 9).blk t).view.emb (ix2 r j) = ix2 (at8 t (lt8 t) r) j := by
  blk_ext [e9]

theorem emb10 (t : Fin cfg0.N) (r : Fin 256) (j : Fin 1024) :
    ((cfg0.win 10).blk t).view.emb (ix2 r j) = ix2 (at8 t (lt8 t) r) j := by
  blk_ext [e10]

theorem emb11 (t : Fin cfg0.N) (r : Fin 256) (j : Fin 1024) :
    ((cfg0.win 11).blk t).view.emb (ix2 r j) = ix2 (at8 t (lt8 t) r) j := by
  blk_ext [e11]

theorem emb12 (t : Fin cfg0.N) (r : Fin 256) (j : Fin 64) :
    ((cfg0.win 12).blk t).view.emb (ix2 r j) = ix2 (at8 t (lt8 t) r) j := by
  blk_ext [e12]

/-- The normalised input the launch forms. -/
def XN (n : Fin 2048) (j : Fin 1024) : EReal :=
  nrm (V c main_v18 (ix1 (0 : Fin 4))) (fun n j => V c main_v0 (ix2 n j)) (fun n => V c main_v32 (ix2 n (0 : Fin 1)))
    (fun j => V c main_v33 (ix2 (0 : Fin 1) j)) n j

theorem xnb (t : Fin cfg0.N) (r : Fin 256) (j : Fin 1024) (v0 : EReal) (h0 : v0 = iblk0 V c 0 t (ix1 (0 : Fin 4))) :
    k0_pay1 (F := Ideal) v0 (iblk0 V c 1 t) (iblk0 V c 2 t) (iblk0 V c 3 t) (ix2 r j) = XN V c (at8 t (lt8 t) r) j := by
  refine (xn_apply _ _ _ _ r j).trans ?_
  unfold XN nrm
  exact congr (congrArg HMul.hMul (congr (congrArg HMul.hMul (congr (congrArg HMul.hMul (b1 V c t _ _)) (h0.trans (b0 V c t 0))))
    (b2 V c t _ _))) (b3 V c t _ _)

theorem sc0 (t : Fin cfg0.N) (x : S4.Idx) (hx : (x 0).val = 0) : iblk0 V c 0 t x = iblk0 V c 0 t (ix1 (0 : Fin 4)) :=
  congrArg (iblk0 V c 0 t) (funext fun a => Fin.ext (by fin_cases a; exact hx))

/-- The normalised input, as an array. -/
def G8 (y : S2048x1024.Idx) : EReal := XN V c (y 0) (y 1)

theorem xn_eq : (dat0 V c).arrAt 8 cfg0.N = G8 V c := by
  refine (dat0 V c).arrAt_eq_of_covers 8 _ (by decide +kernel) fun t hf y => ?_
  blk_simp
  rw [after0_8]
  unfold outsAt0
  frame_out
  obtain ⟨r, j, rfl⟩ : ∃ (r : Fin 256) (j : Fin 1024), y = ix2 r j := ⟨y 0, y 1, funext fun a => by fin_cases a <;> rfl⟩
  refine Eq.trans ?_ (congrArg (G8 V c) (emb8 t r j)).symm
  exact xnb V c t r j _ (sc0 V c t _ rfl)

/-- The normalised input times the array of window 4, as an array. -/
def G9 (y : S2048x1024.Idx) : EReal := proj (XN V c) (fun n j => V c main_arg3 (ix2 n j)) (y 0) (y 1)

theorem p9_eq : (dat0 V c).arrAt 9 cfg0.N = G9 V c := by
  refine (dat0 V c).arrAt_eq_of_covers 9 _ (by decide +kernel) fun t hf y => ?_
  blk_simp
  rw [after0_9]
  unfold outsAt0
  frame_out
  obtain ⟨r, j, rfl⟩ : ∃ (r : Fin 256) (j : Fin 1024), y = ix2 r j := ⟨y 0, y 1, funext fun a => by fin_cases a <;> rfl⟩
  refine Eq.trans ?_ (congrArg (G9 V c) (emb9 t r j)).symm
  refine (q_apply _ _ _ _ _ r j).trans ?_
  unfold G9 proj
  exact Finset.sum_congr rfl fun k _ => congr (congrArg HMul.hMul (xnb V c t r k _ (sc0 V c t _ rfl))) (b4 V c t _ _)

/-- The normalised input times the array of window 5, as an array. -/
def G10 (y : S2048x1024.Idx) : EReal := proj (XN V c) (fun n j => V c main_arg4 (ix2 n j)) (y 0) (y 1)

theorem p10_eq : (dat0 V c).arrAt 10 cfg0.N = G10 V c := by
  refine (dat0 V c).arrAt_eq_of_covers 10 _ (by decide +kernel) fun t hf y => ?_
  blk_simp
  rw [after0_10]
  unfold outsAt0
  frame_out
  obtain ⟨r, j, rfl⟩ : ∃ (r : Fin 256) (j : Fin 1024), y = ix2 r j := ⟨y 0, y 1, funext fun a => by fin_cases a <;> rfl⟩
  refine Eq.trans ?_ (congrArg (G10 V c) (emb10 t r j)).symm
  refine (q_apply _ _ _ _ _ r j).trans ?_
  unfold G10 proj
  exact Finset.sum_congr rfl fun k _ => congr (congrArg HMul.hMul (xnb V c t r k _ (sc0 V c t _ rfl))) (b5 V c t _ _)

/-- The normalised input times the array of window 6, as an array. -/
def G11 (y : S2048x1024.Idx) : EReal := proj (XN V c) (fun n j => V c main_arg5 (ix2 n j)) (y 0) (y 1)

theorem p11_eq : (dat0 V c).arrAt 11 cfg0.N = G11 V c := by
  refine (dat0 V c).arrAt_eq_of_covers 11 _ (by decide +kernel) fun t hf y => ?_
  blk_simp
  rw [after0_11]
  unfold outsAt0
  frame_out
  obtain ⟨r, j, rfl⟩ : ∃ (r : Fin 256) (j : Fin 1024), y = ix2 r j := ⟨y 0, y 1, funext fun a => by fin_cases a <;> rfl⟩
  refine Eq.trans ?_ (congrArg (G11 V c) (emb11 t r j)).symm
  refine (q_apply _ _ _ _ _ r j).trans ?_
  unfold G11 proj
  exact Finset.sum_congr rfl fun k _ => congr (congrArg HMul.hMul (xnb V c t r k _ (sc0 V c t _ rfl))) (b6 V c t _ _)

/-- The normalised input times the array of window 7, as an array. -/
def G12 (y : S2048x64.Idx) : EReal := proj (XN V c) (fun n j => V c main_arg7 (ix2 n j)) (y 0) (y 1)

theorem p12_eq : (dat0 V c).arrAt 12 cfg0.N = G12 V c := by
  refine (dat0 V c).arrAt_eq_of_covers 12 _ (by decide +kernel) fun t hf y => ?_
  blk_simp
  rw [after0_12]
  unfold outsAt0
  frame_out
  obtain ⟨r, j, rfl⟩ : ∃ (r : Fin 256) (j : Fin 64), y = ix2 r j := ⟨y 0, y 1, funext fun a => by fin_cases a <;> rfl⟩
  refine Eq.trans ?_ (congrArg (G12 V c) (emb12 t r j)).symm
  refine (g_apply _ _ _ _ _ r j).trans ?_
  unfold G12 proj
  exact Finset.sum_congr rfl fun k _ => congr (congrArg HMul.hMul (xnb V c t r k _ (sc0 V c t _ rfl))) (b7 V c t _ _)

end

end Cert.KernelIdeal.Reg0
-- ==== Proof.Reg1.lean ====
module

public import proofs.«01_k».proof.Proof.Spec
public import Idealize.ShloMosaic.Lib.Pipeline.ValueKit.Geometry
public import Idealize.ShloMosaic.Lib.Pipeline.ValueKit.Acc

/-! The feed-forward launch: its array as a function of the arrays it reads, over exact numbers. -/

@[expose] public section

set_option maxRecDepth 16384

namespace Cert.KernelIdeal.Reg1

open Cert.KernelIdeal Cert.KernelIdeal.Gen Cert.Rows Cert.KernelIdeal.Attn Cert.KernelIdeal.Body Cert.Spec
open Idealize.ShloMosaic Idealize.ShloMosaic.TcCoe

noncomputable section

/-- Row `r` of block `t`. -/
abbrev at8 (t : ℕ) (ht : t < 8) (r : Fin 256) : Fin 2048 := ⟨256 * t + r.val, by omega⟩

variable (V : (c : Dev nD) → (b : Ref sig .tc) → Buf (Elt Ideal) ((c : Thread nD τ).loc b)) (c : Dev nD)

theorem lt8 (t : Fin cfg1.N) : t.val < 8 := t.isLt

theorem e0 : ∀ t : Fin cfg1.N, win1_0.index t = ![0] := (by decide +kernel : ∀ t : Fin grid1.N, _)
theorem e1 : ∀ t : Fin cfg1.N, win1_1.index t = ![t.val, 0] := (by decide +kernel : ∀ t : Fin grid1.N, _)
theorem e2 : ∀ t : Fin cfg1.N, win1_2.index t = ![0, 0] := (by decide +kernel : ∀ t : Fin grid1.N, _)
theorem e3 : ∀ t : Fin cfg1.N, win1_3.index t = ![0, 0] := (by decide +kernel : ∀ t : Fin grid1.N, _)
theorem e4 : ∀ t : Fin cfg1.N, win1_4.index t = ![0, 0] := (by decide +kernel : ∀ t : Fin grid1.N, _)
theorem e5 : ∀ t : Fin cfg1.N, win1_5.index t = ![0, 0] := (by decide +kernel : ∀ t : Fin grid1.N, _)
theorem e6 : ∀ t : Fin cfg1.N, win1_6.index t = ![t.val, 0] := (by decide +kernel : ∀ t : Fin grid1.N, _)

theorem b0 (t : Fin cfg1.N) (i : Fin 4) : iblk1 V c 0 t (ix1 i) = V c main_v18 (ix1 i) := by
  blk_simp [iblk1]
  exact congrArg (V c main_v18) (by blk_ext [e0])

theorem b1 (t : Fin cfg1.N) (r : Fin 256) (j : Fin 1024) : iblk1 V c 1 t (ix2 r j) = V c main_v34_0 (ix2 (at8 t (lt8 t) r) j) := by
  blk_simp [iblk1]
  exact congrArg (V c main_v34_0) (by blk_ext [e1])

theorem b2 (t : Fin cfg1.N) (r : Fin 1024) (j : Fin 4096) : iblk1 V c 2 t (ix2 r j) = V c main_arg8 (ix2 r j) := by
  blk_simp [iblk1]
  exact congrArg (V c main_arg8) (by blk_ext [e2])

theorem b3 (t : Fin cfg1.N) (r : Fin 1) (j : Fin 4096) : iblk1 V c 3 t (ix2 r j) = V c main_v35 (ix2 r j) := by
  blk_simp [iblk1]
  exact congrArg (V c main_v35) (by blk_ext [e3])

theorem b4 (t : Fin cfg1.N) (r : Fin 4096) (j : Fin 1024) : iblk1 V c 4 t (ix2 r j) = V c main_arg10 (ix2 r j) := by
  blk_simp [iblk1]
  exact congrArg (V c main_arg10) (by blk_ext [e4])

theorem b5 (t : Fin cfg1.N) (r : Fin 1) (j : Fin 1024) : iblk1 V c 5 t (ix2 r j) = V c main_v36 (ix2 r j) := by
  blk_simp [iblk1]
  exact congrArg (V c main_v36) (by blk_ext [e5])

theorem emb6 (t : Fin cfg1.N) (r : Fin 256) (j : Fin 1024) :
    ((cfg1.win 6).blk t).view.emb (ix2 r j) = ix2 (at8 t (lt8 t) r) j := by
  blk_ext [e6]

/-- The feed-forward branch, as an array. -/
def G6 (y : S2048x1024.Idx) : EReal :=
  ffn (V c main_v18 (ix1 (1 : Fin 4))) (fun n j => V c main_v34_0 (ix2 n j)) (fun n j => V c main_arg8 (ix2 n j))
    (fun j => V c main_v35 (ix2 (0 : Fin 1) j)) (fun n j => V c main_arg10 (ix2 n j)) (fun j => V c main_v36 (ix2 (0 : Fin 1) j)) (y 0) (y 1)

theorem f_eq : (dat1 V c).arrAt 6 cfg1.N = G6 V c := by
  refine (dat1 V c).arrAt_eq_of_covers 6 _ (by decide +kernel) fun t hf y => ?_
  blk_simp
  rw [after1_6]
  unfold outsAt1
  frame_out
  obtain ⟨r, j, rfl⟩ : ∃ (r : Fin 256) (j : Fin 1024), y = ix2 r j := ⟨y 0, y 1, funext fun a => by fin_cases a <;> rfl⟩
  refine Eq.trans ?_ (congrArg (G6 V c) (emb6 t r j)).symm
  refine (f_apply _ _ _ _ _ _ r j).trans ?_
  unfold G6 ffn
  refine congr (congrArg HMul.hMul ?_) (congr (congrArg HAdd.hAdd (Finset.sum_congr rfl fun m _ => congr (congrArg HMul.hMul (congrArg gelu
    (congr (congrArg HAdd.hAdd (Finset.sum_congr rfl fun k _ => congr (congrArg HMul.hMul (b1 V c t _ _)) (b2 V c t _ _))) (b3 V c t _ _))))
    (b4 V c t _ _))) (b5 V c t _ _))
  refine Eq.trans ?_ (b0 V c t 1)
  exact congrArg (iblk1 V c 0 t) (funext fun a => Fin.ext (by fin_cases a; rfl))

end

end Cert.KernelIdeal.Reg1
-- ==== Proof.Reg2.lean ====
module

public import proofs.«01_k».proof.Proof.Spec
public import Idealize.ShloMosaic.Lib.Pipeline.ValueKit.Geometry

/-! The attention launch: its two arrays as functions of the arrays it reads, over exact numbers. -/

@[expose] public section

set_option maxRecDepth 16384

namespace Cert.KernelIdeal.Reg2

open Cert.KernelIdeal Cert.KernelIdeal.Gen Cert.Rows Cert.KernelIdeal.Attn Cert.KernelIdeal.Body Cert.Spec
open Idealize.ShloMosaic Idealize.ShloMosaic.TcCoe

noncomputable section

/-- Row `r` of block `t`. -/
abbrev at8 (t : ℕ) (ht : t < 8) (r : Fin 256) : Fin 2048 := ⟨256 * t + r.val, by omega⟩

variable (V : (c : Dev nD) → (b : Ref sig .tc) → Buf (Elt Ideal) ((c : Thread nD τ).loc b)) (c : Dev nD)

theorem lt8 (t : Fin cfg2.N) : t.val < 8 := t.isLt

theorem e0 : ∀ t : Fin cfg2.N, win2_0.index t = ![0] := (by decide +kernel : ∀ t : Fin grid2.N, _)
theorem e1 : ∀ t : Fin cfg2.N, win2_1.index t = ![t.val, 0] := (by decide +kernel : ∀ t : Fin grid2.N, _)
theorem e2 : ∀ t : Fin cfg2.N, win2_2.index t = ![0, 0] := (by decide +kernel : ∀ t : Fin grid2.N, _)
theorem e3 : ∀ t : Fin cfg2.N, win2_3.index t = ![0, 0] := (by decide +kernel : ∀ t : Fin grid2.N, _)
theorem e4 : ∀ t : Fin cfg2.N, win2_4.index t = ![0, 0] := (by decide +kernel : ∀ t : Fin grid2.N, _)
theorem e5 : ∀ t : Fin cfg2.N, win2_5.index t = ![t.val, 0] := (by decide +kernel : ∀ t : Fin grid2.N, _)
theorem e6 : ∀ t : Fin cfg2.N, win2_6.index t = ![t.val, 0] := (by decide +kernel : ∀ t : Fin grid2.N, _)
theorem e7 : ∀ t : Fin cfg2.N, win2_7.index t = ![t.val, 0] := (by decide +kernel : ∀ t : Fin grid2.N, _)
theorem e8 : ∀ t : Fin cfg2.N, win2_8.index t = ![0, 0] := (by decide +kernel : ∀ t : Fin grid2.N, _)
theorem e9 : ∀ t : Fin cfg2.N, win2_9.index t = ![t.val, 0] := (by decide +kernel : ∀ t : Fin grid2.N, _)
theorem e10 : ∀ t : Fin cfg2.N, win2_10.index t = ![0, t.val, 0] := (by decide +kernel : ∀ t : Fin grid2.N, _)

theorem b0 (t : Fin cfg2.N) (i : Fin 4) : iblk2 V c 0 t (ix1 i) = V c main_v18 (ix1 i) := by
  blk_simp [iblk2]
  exact congrArg (V c main_v18) (by blk_ext [e0])

theorem b1 (t : Fin cfg2.N) (r : Fin 256) (j : Fin 1024) : iblk2 V c 1 t (ix2 r j) = V c main_v34_1 (ix2 (at8 t (lt8 t) r) j) := by
  blk_simp [iblk2]
  exact congrArg (V c main_v34_1) (by blk_ext [e1])

theorem b2 (t : Fin cfg2.N) (r : Fin 2048) (j : Fin 1024) : iblk2 V c 2 t (ix2 r j) = V c main_v34_2 (ix2 r j) := by
  blk_simp [iblk2]
  exact congrArg (V c main_v34_2) (by blk_ext [e2])

theorem b3 (t : Fin cfg2.N) (r : Fin 2048) (j : Fin 1024) : iblk2 V c 3 t (ix2 r j) = V c main_v34_3 (ix2 r j) := by
  blk_simp [iblk2]
  exact congrArg (V c main_v34_3) (by blk_ext [e3])

theorem b4 (t : Fin cfg2.N) (r : Fin 2048) (j : Fin 64) : iblk2 V c 4 t (ix2 r j) = V c main_v34_4 (ix2 r j) := by
  blk_simp [iblk2]
  exact congrArg (V c main_v34_4) (by blk_ext [e4])

theorem b5 (t : Fin cfg2.N) (r : Fin 256) (j : Fin 64) : iblk2 V c 5 t (ix2 r j) = V c main_v34_4 (ix2 (at8 t (lt8 t) r) j) := by
  blk_simp [iblk2]
  exact congrArg (V c main_v34_4) (by blk_ext [e5])

theorem b6 (t : Fin cfg2.N) (r : Fin 256) (j : Fin 2048) : iblk2 V c 6 t (ix2 r j) = V c main_v1 (ix2 (at8 t (lt8 t) r) j) := by
  blk_simp [iblk2]
  exact congrArg (V c main_v1) (by blk_ext [e6])

theorem b7 (t : Fin cfg2.N) (r : Fin 256) (j : Fin 1024) : iblk2 V c 7 t (ix2 r j) = V c main_v37 (ix2 (at8 t (lt8 t) r) j) := by
  blk_simp [iblk2]
  exact congrArg (V c main_v37) (by blk_ext [e7])

theorem b8 (t : Fin cfg2.N) (r : Fin 1024) (j : Fin 1024) : iblk2 V c 8 t (ix2 r j) = V c main_arg6 (ix2 r j) := by
  blk_simp [iblk2]
  exact congrArg (V c main_arg6) (by blk_ext [e8])

/-- The scores the launch forms. -/
def S (h : Fin 16) (n p : Fin 2048) : EReal :=
  score (fun n j => V c main_v34_1 (ix2 n j)) (fun n j => V c main_v34_2 (ix2 n j)) (fun n j => V c main_v34_4 (ix2 n j))
    (fun n j => V c main_v1 (ix2 n j)) h n p

theorem qh (x : Vec Ideal S256x1024 .f32) (h : Fin 16) (r : Fin 256) (d : Fin 64) : QH x h (ix2 r d) = x (ix2 r (hd h d)) := by
  unfold QH
  refine congrArg x (funext fun a => Fin.ext ?_)
  match a with
  | ⟨0, _⟩ => show 0 + 1 * r.val = r.val; omega
  | ⟨1, _⟩ => show 64 * h.val + 1 * d.val = 64 * h.val + d.val; omega

theorem kh (x : Vec Ideal S2048x1024 .f32) (h : Fin 16) (r : Fin 2048) (d : Fin 64) : KH x h (ix2 r d) = x (ix2 r (hd h d)) := by
  unfold KH
  refine congrArg x (funext fun a => Fin.ext ?_)
  match a with
  | ⟨0, _⟩ => show 0 + 1 * r.val = r.val; omega
  | ⟨1, _⟩ => show 64 * h.val + 1 * d.val = 64 * h.val + d.val; omega

theorem sch (t : Fin cfg2.N) (h : Fin 16) (r : Fin 256) (p : Fin 2048) :
    SCH (iblk2 V c 1 t) (iblk2 V c 2 t) (iblk2 V c 4 t) (iblk2 V c 5 t) (iblk2 V c 6 t) h (ix2 r p)
      = S V c h (at8 t (lt8 t) r) p := by
  unfold SCH S score
  refine (sc_apply _ _ _ _ r p).trans ?_
  rw [adj_apply]
  refine congr (congrArg HAdd.hAdd (congr (congrArg HAdd.hAdd (congrArg (· * _) (Finset.sum_congr rfl fun d _ => ?_))) ?_))
    (congrArg (· * _) (Finset.sum_congr rfl fun d _ => ?_))
  · rw [qh, kh]
    exact congr (congrArg HMul.hMul (b1 V c t _ _)) (b2 V c t _ _)
  · exact b6 V c t _ _
  · exact congr (congrArg HMul.hMul (b5 V c t _ _)) (b4 V c t _ _)

theorem schRow (t : Fin cfg2.N) (h : Fin 16) (r : Fin 256) :
    rowOf (SCH (iblk2 V c 1 t) (iblk2 V c 2 t) (iblk2 V c 4 t) (iblk2 V c 5 t) (iblk2 V c 6 t) h) r
      = S V c h (at8 t (lt8 t) r) := funext fun p => sch V c t h r p

/-- Each row's largest positions, as an array. -/
def G10 (y : S16x2048x32.Idx) : BitVec 32 := BitVec.ofNat 32 (top (S V c (y 0) (y 1)) (y 2)).val

/-- The layer's output, as an array. -/
def G9 (y : S2048x1024.Idx) : EReal :=
  out (S V c) (fun n j => V c main_v34_3 (ix2 n j)) (V c main_v18 (ix1 (2 : Fin 4)))
    (fun n j => V c main_v37 (ix2 n j)) (fun k j => V c main_arg6 (ix2 k j)) (y 0) (y 1)

theorem emb10 (t : Fin cfg2.N) (h : Fin 16) (r : Fin 256) (i : Fin 32) :
    ((cfg2.win 10).blk t).view.emb (ix3 h r i) = ix3 h (at8 t (lt8 t) r) i := by
  blk_ext [e10]

theorem emb9 (t : Fin cfg2.N) (r : Fin 256) (j : Fin 1024) :
    ((cfg2.win 9).blk t).view.emb (ix2 r j) = ix2 (at8 t (lt8 t) r) j := by
  blk_ext [e9]

/-- The second result: each row's largest positions. -/
theorem idx_eq : (dat2 V c).arrAt 10 cfg2.N = G10 V c := by
  refine (dat2 V c).arrAt_eq_of_covers 10 _ (by decide +kernel) fun t hf y => ?_
  blk_simp
  rw [after2_10]
  unfold outsAt2
  dsimp only
  rw [out10]
  obtain ⟨h, r, i, rfl⟩ : ∃ (h : Fin 16) (r : Fin 256) (i : Fin 32), y = ix3 h r i := ⟨y 0, y 1, y 2, funext fun a => by fin_cases a <;> rfl⟩
  refine Eq.trans ?_ (congrArg (G10 V c) (emb10 t h r i)).symm
  refine (ix_top _ _ r i).trans ?_
  exact congrArg (fun s => BitVec.ofNat 32 (top s i).val) (schRow V c t h r)

/-- The first result: the layer's output. -/
theorem out_eq (hc : ∀ h n p, NEG < S V c h n p) : (dat2 V c).arrAt 9 cfg2.N = G9 V c := by
  refine (dat2 V c).arrAt_eq_of_covers 9 _ (by decide +kernel) fun t hf y => ?_
  blk_simp
  rw [after2_9]
  unfold outsAt2
  dsimp only
  rw [out9]
  obtain ⟨r, j, rfl⟩ : ∃ (r : Fin 256) (j : Fin 1024), y = ix2 r j := ⟨y 0, y 1, funext fun a => by fin_cases a <;> rfl⟩
  refine Eq.trans ?_ (congrArg (G9 V c) (emb9 t r j)).symm
  refine (out_apply _ _ _ _ r j).trans ?_
  unfold G9 out
  refine congr (congrArg HAdd.hAdd (b7 V c t _ _)) (congr (congrArg HMul.hMul (b0 V c t _)) (Finset.sum_congr rfl fun k _ => ?_))
  refine congr (congrArg HMul.hMul ?_) (b8 V c t _ _)
  unfold ATALL ATH
  refine (at_top _ _ _ _ _ r _ fun p => ?_).trans ?_
  · have e := sch V c t (hOf k) r p
    unfold SCH at e
    exact lt_of_lt_of_eq (hc _ _ _) e.symm
  · refine congr (congrArg attn (schRow V c t (hOf k) r)) (funext fun p => ?_)
    refine (kh _ _ p _).trans ((b3 V c t _ _).trans ?_)
    refine congrArg (V c main_v34_3) (congrArg (ix2 p) (Fin.ext ?_))
    show 64 * (k.val / 64) + k.val % 64 = k.val
    omega

end

end Cert.KernelIdeal.Reg2
-- ==== Proof.Host.lean ====
module

public import proofs.«01_k».proof.Proof.Reg0
public import proofs.«01_k».proof.Proof.Reg1
public import proofs.«01_k».proof.Proof.Reg2
public import Idealize.ShloMosaic.Lib.Claim
public import Idealize.ShloMosaic.Lib.StableHlo.ReadAt

/-! What the lines between the launches compute, read at one position over exact numbers. -/

@[expose] public section

set_option maxRecDepth 16384

namespace Cert.KernelIdeal.Hosts

open Cert.KernelIdeal Cert.KernelIdeal.Gen Cert.Rows Cert.KernelIdeal.Attn Cert.KernelIdeal.Body Cert.Spec
open Idealize.ShloMosaic Idealize.ShloMosaic.TcCoe

noncomputable section

variable (m : (ℓ : Loc nD τ sig) → Buf (Elt Ideal) ℓ) (ρ : Dev nD → PrngReg) (c : Dev nD)

/-- The one position of a scalar. -/
abbrev i0 : S_.Idx := ValueIdx.ix0

/-- An argument. -/
abbrev A (r : Ref sig .tc) : Buf (Elt Ideal) ((c : Thread nD τ).loc r) := m ((c : Thread nD τ).loc r)

theorem v0 (n : Fin 2048) (j : Fin 1024) : V1 m ρ c main_v0 (ix2 n j) = A m c main_arg0 (ix3 (0 : Fin 1) n j) := by
  show StableHlo.after hostOps0 _ (Proc.devRef .tc main_v0) _ = _
  after_reads_at

theorem v1 (n p : Fin 2048) : V1 m ρ c main_v1 (ix2 n p) = A m c main_arg1 (ix4 (0 : Fin 1) (0 : Fin 1) n p) := by
  show StableHlo.after hostOps0 _ (Proc.devRef .tc main_v1) _ = _
  after_reads_at

theorem v18_0 : V1 m ρ c main_v18 (ix1 (0 : Fin 4)) = sig1 (A m c main_arg14 i0) := by
  show StableHlo.after hostOps0 _ (Proc.devRef .tc main_v18) _ = _
  after_reads_at
  after_reads_at
  unfold sig1
  rfl

theorem v18_1 : V1 m ρ c main_v18 (ix1 (1 : Fin 4)) = sig1 (A m c main_arg12 i0) := by
  show StableHlo.after hostOps0 _ (Proc.devRef .tc main_v18) _ = _
  after_reads_at
  after_reads_at
  unfold sig1
  rfl

theorem v18_2 : V1 m ρ c main_v18 (ix1 (2 : Fin 4)) = sig1 (A m c main_arg13 i0) := by
  show StableHlo.after hostOps0 _ (Proc.devRef .tc main_v18) _ = _
  after_reads_at
  after_reads_at
  unfold sig1
  rfl

theorem v32 (n : Fin 2048) : V1 m ρ c main_v32 (ix2 n (0 : Fin 1))
    = rms (fun n j => A m c main_arg0 (ix3 (0 : Fin 1) n j)) (sig1 (A m c main_arg14 i0)) n := by
  show StableHlo.after hostOps0 _ (Proc.devRef .tc main_v32) _ = _
  after_reads_at
  unfold rms sig1
  rfl

theorem v33 (j : Fin 1024) : V1 m ρ c main_v33 (ix2 (0 : Fin 1) j) = A m c main_arg2 (ix1 j) := by
  show StableHlo.after hostOps0 _ (Proc.devRef .tc main_v33) _ = _
  after_reads_at

theorem v35 (j : Fin 4096) : V3 m ρ c main_v35 (ix2 (0 : Fin 1) j) = W2 m ρ c (Proc.devRef .tc main_arg9) (ix1 j) := by
  show StableHlo.after hostOps1 _ (Proc.devRef .tc main_v35) _ = _
  after_reads_at

theorem v36 (j : Fin 1024) : V3 m ρ c main_v36 (ix2 (0 : Fin 1) j) = W2 m ρ c (Proc.devRef .tc main_arg11) (ix1 j) := by
  show StableHlo.after hostOps1 _ (Proc.devRef .tc main_v36) _ = _
  after_reads_at

theorem v39 (n : Fin 2048) (j : Fin 1024) : W6 m ρ c (Proc.devRef .tc main_v39) (ix3 (0 : Fin 1) n j) = W5 m ρ c (Proc.devRef .tc main_v38_0) (ix2 n j) := by
  show StableHlo.after hostOps3 _ (Proc.devRef .tc main_v39) _ = _
  after_reads_at

theorem v40 (h : Fin 16) (n : Fin 2048) (i : Fin 32) : W6 m ρ c (Proc.devRef .tc main_v40) (ix4 (0 : Fin 1) h n i) = W5 m ρ c (Proc.devRef .tc main_v38_1) (ix3 h n i) := by
  show StableHlo.after hostOps3 _ (Proc.devRef .tc main_v40) _ = _
  after_reads_at

end

end Cert.KernelIdeal.Hosts
-- ==== Proof.KVal.lean ====
module

public import proofs.«01_k».proof.Proof.Host

/-! The kernel's two results as functions of its arguments, over exact numbers. -/

@[expose] public section

set_option maxRecDepth 16384

namespace Cert.KernelIdeal.KVal

open Cert.KernelIdeal Cert.KernelIdeal.Gen Cert.Rows Cert.KernelIdeal.Attn Cert.KernelIdeal.Body Cert.Spec Cert.KernelIdeal.Hosts
open Idealize.ShloMosaic Idealize.ShloMosaic.TcCoe

noncomputable section

variable (m : (ℓ : Loc nD τ sig) → Buf (Elt Ideal) ℓ) (ρ : Dev nD → PrngReg) (c : Dev nD)

/-- The arguments on a device. -/
def I : Inp :=
  inp (A m c main_arg0) (A m c main_arg1) (A m c main_arg2) (A m c main_arg3) (A m c main_arg4) (A m c main_arg5) (A m c main_arg6)
    (A m c main_arg7) (A m c main_arg8) (A m c main_arg9) (A m c main_arg10) (A m c main_arg11) (A m c main_arg12) (A m c main_arg13)
    (A m c main_arg14)

/-! ## Equal parts give equal wholes -/

theorem nrm_congr {s s' : EReal} {X X' : Fin 2048 → Fin 1024 → EReal} {r r' : Fin 2048 → EReal} {w w' : Fin 1024 → EReal}
    (h1 : s = s') (h2 : X = X') (h3 : r = r') (h4 : w = w') : nrm s X r w = nrm s' X' r' w' := by subst h1 h2 h3 h4; rfl

theorem score_congr {Q Q' K K' : Fin 2048 → Fin 1024 → EReal} {G G' : Fin 2048 → Fin 64 → EReal} {B B' : Fin 2048 → Fin 2048 → EReal}
    (h1 : Q = Q') (h2 : K = K') (h3 : G = G') (h4 : B = B') : score Q K G B = score Q' K' G' B' := by subst h1 h2 h3 h4; rfl

theorem ffn_congr {a a' : EReal} {X X' : Fin 2048 → Fin 1024 → EReal} {W1 W1' : Fin 1024 → Fin 4096 → EReal} {b1 b1' : Fin 4096 → EReal}
    {W2 W2' : Fin 4096 → Fin 1024 → EReal} {b2 b2' : Fin 1024 → EReal} (h1 : a = a') (h2 : X = X') (h3 : W1 = W1') (h4 : b1 = b1')
    (h5 : W2 = W2') (h6 : b2 = b2') : ffn a X W1 b1 W2 b2 = ffn a' X' W1' b1' W2' b2' := by subst h1 h2 h3 h4 h5 h6; rfl

theorem out_congr {S S' : Fin 16 → Fin 2048 → Fin 2048 → EReal} {V V' : Fin 2048 → Fin 1024 → EReal} {b b' : EReal}
    {f f' : Fin 2048 → Fin 1024 → EReal} {W W' : Fin 1024 → Fin 1024 → EReal} (h1 : S = S') (h2 : V = V') (h3 : b = b') (h4 : f = f')
    (h5 : W = W') : Spec.out S V b f W = Spec.out S' V' b' f' W' := by subst h1 h2 h3 h4 h5; rfl

/-! ## After the projection launch -/

theorem a1 (a : Ref sig .tc) (ha : a ∈ argRefs) : V1 m ρ c a = A m c a := W1_args m ρ c a ha

theorem xn0 : Reg0.XN (V1 m ρ) c = (I m c).xn := by
  have e : (fun n j => V1 m ρ c main_v0 (ix2 n j)) = (I m c).x := funext fun n => funext fun j => v0 m ρ c n j
  exact nrm_congr (v18_0 m ρ c) e (funext fun n => v32 m ρ c n) (funext fun j => v33 m ρ c j)

theorem w2_xn (n : Fin 2048) (j : Fin 1024) : W2 m ρ c (Proc.devRef .tc main_v34_0) (ix2 n j) = (I m c).xn n j := by
  have h := (W2_arr m ρ c 8).trans (Reg0.xn_eq (V1 m ρ) c)
  refine (congrFun h (ix2 n j)).trans ?_
  exact congrFun (congrFun (xn0 m ρ c) n) j

theorem w2_q (n : Fin 2048) (j : Fin 1024) : W2 m ρ c (Proc.devRef .tc main_v34_1) (ix2 n j) = proj (I m c).xn (I m c).wq n j := by
  have h := (W2_arr m ρ c 9).trans (Reg0.p9_eq (V1 m ρ) c)
  refine (congrFun h (ix2 n j)).trans ?_
  unfold Reg0.G9
  rw [xn0, a1 m ρ c main_arg3 (by decide)]
  rfl

theorem w2_k (n : Fin 2048) (j : Fin 1024) : W2 m ρ c (Proc.devRef .tc main_v34_2) (ix2 n j) = proj (I m c).xn (I m c).wk n j := by
  have h := (W2_arr m ρ c 10).trans (Reg0.p10_eq (V1 m ρ) c)
  refine (congrFun h (ix2 n j)).trans ?_
  unfold Reg0.G10
  rw [xn0, a1 m ρ c main_arg4 (by decide)]
  rfl

theorem w2_v (n : Fin 2048) (j : Fin 1024) : W2 m ρ c (Proc.devRef .tc main_v34_3) (ix2 n j) = proj (I m c).xn (I m c).wv n j := by
  have h := (W2_arr m ρ c 11).trans (Reg0.p11_eq (V1 m ρ) c)
  refine (congrFun h (ix2 n j)).trans ?_
  unfold Reg0.G11
  rw [xn0, a1 m ρ c main_arg5 (by decide)]
  rfl

theorem w2_g (n : Fin 2048) (j : Fin 64) : W2 m ρ c (Proc.devRef .tc main_v34_4) (ix2 n j) = proj (I m c).xn (I m c).wg n j := by
  have h := (W2_arr m ρ c 12).trans (Reg0.p12_eq (V1 m ρ) c)
  refine (congrFun h (ix2 n j)).trans ?_
  unfold Reg0.G12
  rw [xn0, a1 m ρ c main_arg7 (by decide)]
  rfl

/-! ## After the feed-forward launch -/

theorem w2_keep (r : Ref sig .tc) (h : ∀ w : Fin cfg0.W, Pipeline.arrRef spec0 w = r → (cfg0.win w).isOut = false) :
    W2 m ρ c (Proc.devRef .tc r) = V1 m ρ c r := W2_of m ρ c r h

theorem v3_scal (i : Fin 4) : V3 m ρ c main_v18 (ix1 i) = V1 m ρ c main_v18 (ix1 i) :=
  congrFun ((W3_of m ρ c main_v18 (by decide +kernel)).trans (W2_of m ρ c main_v18 (by decide +kernel))) _

theorem v3_bias (n p : Fin 2048) : V3 m ρ c main_v1 (ix2 n p) = (I m c).b n p :=
  (congrFun ((W3_of m ρ c main_v1 (by decide +kernel)).trans (W2_of m ρ c main_v1 (by decide +kernel))) _).trans (v1 m ρ c n p)

theorem w4_f (n : Fin 2048) (j : Fin 1024) : W4 m ρ c (Proc.devRef .tc main_v37) (ix2 n j)
    = ffn (sig1 (I m c).al) (I m c).xn (I m c).w1 (I m c).b1 (I m c).w2 (I m c).b2 n j := by
  have h := (W4_arr m ρ c 6).trans (Reg1.f_eq (V3 m ρ) c)
  refine (congrFun h (ix2 n j)).trans ?_
  have e : (fun n j => V3 m ρ c main_v34_0 (ix2 n j)) = (I m c).xn :=
    funext fun n => funext fun j => (congrFun (W3_of m ρ c main_v34_0 (by decide +kernel)) _).trans (w2_xn m ρ c n j)
  have e8 : V3 m ρ c main_arg8 = A m c main_arg8 := W3_args m ρ c main_arg8 (by decide)
  have e10 : V3 m ρ c main_arg10 = A m c main_arg10 := W3_args m ρ c main_arg10 (by decide)
  exact congrFun (congrFun (ffn_congr ((v3_scal m ρ c 1).trans (v18_1 m ρ c)) e
    (funext fun i => funext fun j => congrFun e8 (ix2 i j))
    (funext fun j => (v35 m ρ c j).trans (congrFun (W2_args m ρ c main_arg9 (by decide)) _))
    (funext fun i => funext fun j => congrFun e10 (ix2 i j))
    (funext fun j => (v36 m ρ c j).trans (congrFun (W2_args m ρ c main_arg11 (by decide)) _))) n) j

/-! ## After the attention launch -/

theorem v4_keep (r : Ref sig .tc) (h4 : ∀ w : Fin cfg1.W, Pipeline.arrRef spec1 w = r → (cfg1.win w).isOut = false) (h3 : r ∉ hostOps1_W) :
    V4 m ρ c r = W2 m ρ c (Proc.devRef .tc r) := (W4_of m ρ c r h4).trans (W3_of m ρ c r h3)

theorem s4 : Reg2.S (V4 m ρ) c = (I m c).s := by
  funext h n p
  unfold Reg2.S Inp.s
  have k (r : Ref sig .tc) h4 h3 := v4_keep m ρ c r h4 h3
  have eb : V4 m ρ c main_v1 = V3 m ρ c main_v1 := W4_of m ρ c main_v1 (by decide +kernel)
  exact congrFun (congrFun (congrFun (score_congr
    (funext fun n => funext fun j => (congrFun (k main_v34_1 (by decide +kernel) (by decide +kernel)) _).trans (w2_q m ρ c n j))
    (funext fun n => funext fun j => (congrFun (k main_v34_2 (by decide +kernel) (by decide +kernel)) _).trans (w2_k m ρ c n j))
    (funext fun n => funext fun j => (congrFun (k main_v34_4 (by decide +kernel) (by decide +kernel)) _).trans (w2_g m ρ c n j))
    (funext fun n => funext fun p => (congrFun eb _).trans (v3_bias m ρ c n p))) h) n) p

theorem idx_val : W6 m ρ c (Proc.devRef .tc main_v40) = (I m c).idx4 := by
  funext y
  obtain ⟨z, h, n, i, rfl⟩ : ∃ (z : Fin 1) (h : Fin 16) (n : Fin 2048) (i : Fin 32), y = ix4 z h n i :=
    ⟨y 0, y 1, y 2, y 3, funext fun a => by fin_cases a <;> rfl⟩
  obtain rfl : z = 0 := Subsingleton.elim _ _
  refine (v40 m ρ c h n i).trans ?_
  refine (congrFun ((W5_arr m ρ c 10).trans (Reg2.idx_eq (V4 m ρ) c)) (ix3 h n i)).trans ?_
  unfold Reg2.G10
  rw [s4]
  rfl

theorem out_val (hc : ∀ h n p, NEG < (I m c).s h n p) : W6 m ρ c (Proc.devRef .tc main_v39) = (I m c).out3 := by
  funext y
  obtain ⟨z, n, j, rfl⟩ : ∃ (z : Fin 1) (n : Fin 2048) (j : Fin 1024), y = ix3 z n j :=
    ⟨y 0, y 1, y 2, funext fun a => by fin_cases a <;> rfl⟩
  obtain rfl : z = 0 := Subsingleton.elim _ _
  refine (v39 m ρ c n j).trans ?_
  refine (congrFun ((W5_arr m ρ c 9).trans (Reg2.out_eq (V4 m ρ) c (by rw [s4]; exact hc))) (ix2 n j)).trans ?_
  have e6 : V4 m ρ c main_arg6 = A m c main_arg6 := W4_args m ρ c main_arg6 (by decide)
  have e18 : V4 m ρ c main_v18 = V3 m ρ c main_v18 := W4_of m ρ c main_v18 (by decide +kernel)
  exact congrFun (congrFun (out_congr (s4 m ρ c)
    (funext fun n => funext fun j => (congrFun (v4_keep m ρ c main_v34_3 (by decide +kernel) (by decide +kernel)) _).trans (w2_v m ρ c n j))
    ((congrFun e18 _).trans ((v3_scal m ρ c 2).trans (v18_2 m ρ c)))
    (funext fun n => funext fun j => w4_f m ρ c n j)
    (funext fun i => funext fun j => congrFun e6 (ix2 i j))) n) j

end

end Cert.KernelIdeal.KVal
-- ==== Proof.RunI.lean ====
module

public import proofs.«01_k».proof.Proof.KVal

/-! The kernel's launch run with both results named: every run ends with the two result arrays at the values the last lines compute. -/

@[expose] public section

set_option maxRecDepth 16384

namespace Cert.KernelIdeal.RunI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

noncomputable section

variable {F : FTy → Type} [FloatOps F]
variable (m : (ℓ : Loc nD τ sig) → Buf (Elt F) ℓ) (ρ : Dev nD → PrngReg)

local notation "𝕄" => MT nD τ sig Unit (Elt F) ℕ (UR sig nD τ) ℕ

theorem argRefs_hbm : ∀ a ∈ argRefs, ¬ (Proc.devRef .tc a : DevRef τ sig).isScoped := ListAll.forall_mem_of_all_decide (by decide +kernel)

set_option backward.isDefEq.respectTransparency.types false in
/-- The launch set-up is the generated frame's, and the run reads the two results too. -/
theorem run : θ_run defs (onTc (τ := τ) (main (F := F))) ⟨m, fun _ => 0, ρ⟩ (fun r => (∀ c : Dev nD,
      r.2.mem ((c.tc : Thread nD τ).loc main_v39) = W6 m ρ c (Proc.devRef .tc main_v39)
      ∧ r.2.mem ((c.tc : Thread nD τ).loc main_v40) = W6 m ρ c (Proc.devRef .tc main_v40)
      ∧ ∀ a ∈ argRefs, r.2.mem ((c.tc : Thread nD τ).loc a) = m ((c.tc : Thread nD τ).loc a))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v39 (by decide)), h c _ (mem_uc main_v40 (by decide)),
       fun a ha => (h c _ (mem_uc a (argRefs_hbm a ha))).trans (W6_args m ρ c a ha)⟩), funext fun g => hz g (.inr (no_unscoped g.2))⟩)

end

end Cert.KernelIdeal.RunI
-- ==== Proof.RefScore.lean ====
module

public import proofs.«01_k».proof.Proof.Spec
public import proofs.«01_k».proof.Proof.Gen.ReferenceIdeal.Read

/-! The reference's scores and projections, read at their coordinates. -/

@[expose] public section

set_option maxRecDepth 16384

namespace Cert.ReferenceIdeal.Score

open Cert.ReferenceIdeal Cert.ReferenceIdeal.Gen Cert.ReferenceIdeal.Read Cert.Rows Cert.KernelIdeal.Attn Cert.KernelIdeal.Body Cert.Spec
open Idealize.ShloMosaic Idealize.ShloMosaic.TcCoe

noncomputable section

variable (x0 : FVec Ideal ⟨3, ![1, 2048, 1024]⟩ .f32) (x1 : FVec Ideal ⟨4, ![1, 1, 2048, 2048]⟩ .f32) (x2 : FVec Ideal ⟨1, ![1024]⟩ .f32)
  (x3 x4 x5 x6 : FVec Ideal ⟨2, ![1024, 1024]⟩ .f32) (x7 : FVec Ideal ⟨2, ![1024, 64]⟩ .f32) (x8 : FVec Ideal ⟨2, ![1024, 4096]⟩ .f32)
  (x9 : FVec Ideal ⟨1, ![4096]⟩ .f32) (x10 : FVec Ideal ⟨2, ![4096, 1024]⟩ .f32) (x11 : FVec Ideal ⟨1, ![1024]⟩ .f32)
  (x12 x13 x14 : FVec Ideal ⟨0, ![]⟩ .f32)

local notation "𝓘" => inp x0 x1 x2 x3 x4 x5 x6 x7 x8 x9 x10 x11 x12 x13 x14

theorem sig_apply (y : S_.Idx) : val_main_v3 (F := Ideal) x14 y = sig1 (x14 ValueIdx.ix0) := by
  obtain rfl : y = ValueIdx.ix0 := funext fun a => a.elim0
  unfold val_main_v3 val_main_v2 val_main_v1 val_main_v0 val_main_cst val_main_cst_0 sig1
  pointwise

theorem v5_apply (n : Fin 2048) (j : Fin 1024) :
    val_main_v5 (F := Ideal) x0 x14 (ix3 (0 : Fin 1) n j) = sig1 (x14 ValueIdx.ix0) * x0 (ix3 (0 : Fin 1) n j) := by
  unfold val_main_v5 val_main_v4
  have h := sig_apply x14 ValueIdx.ix0
  revert h
  generalize val_main_v3 (F := Ideal) x14 = s
  intro h
  pointwise
  exact congrArg (· * x0 (ix3 (0 : Fin 1) n j)) h

theorem v13_apply (n : Fin 2048) :
    val_main_v13 (F := Ideal) x0 x14 (ix3 (0 : Fin 1) n (0 : Fin 1)) = rms (fun n j => x0 (ix3 (0 : Fin 1) n j)) (sig1 (x14 ValueIdx.ix0)) n := by
  unfold val_main_v13 val_main_v12 val_main_v11 val_main_v10 val_main_v9 val_main_v8 val_main_v7 val_main_v6 rms val_main_cst_1 val_main_cst_2 val_main_cst_3
  have h := v5_apply x0 x14
  revert h
  generalize val_main_v5 (F := Ideal) x0 x14 = s
  intro h
  pointwise [h]

theorem xn_apply (n : Fin 2048) (j : Fin 1024) : val_main_v18 (F := Ideal) x0 x2 x14 (ix3 (0 : Fin 1) n j) = Inp.xn 𝓘 n j := by
  have h := v5_apply x0 x14 n j
  have h' := v13_apply x0 x14 n
  unfold val_main_v18 val_main_v17 val_main_v16 val_main_v15 val_main_v14
  revert h h'
  generalize val_main_v5 (F := Ideal) x0 x14 = s
  generalize val_main_v13 (F := Ideal) x0 x14 = t
  intro h h'
  pointwise [h, h']
  rw [mul_comm (sig1 _)]
  rfl

theorem q_apply (n : Fin 2048) (j : Fin 1024) : val_main_v19 (F := Ideal) x0 x2 x3 x14 (ix3 (0 : Fin 1) n j) = proj (Inp.xn 𝓘) (Inp.wq 𝓘) n j := by
  unfold val_main_v19
  have h := xn_apply x0 x1 x2 x3 x4 x5 x6 x7 x8 x9 x10 x11 x12 x13 x14 n
  revert h
  generalize val_main_v18 (F := Ideal) x0 x2 x14 = s
  intro h
  pointwise [h]
  rfl

theorem k_apply (n : Fin 2048) (j : Fin 1024) : val_main_v22 (F := Ideal) x0 x2 x4 x14 (ix3 (0 : Fin 1) n j) = proj (Inp.xn 𝓘) (Inp.wk 𝓘) n j := by
  unfold val_main_v22
  have h := xn_apply x0 x1 x2 x3 x4 x5 x6 x7 x8 x9 x10 x11 x12 x13 x14 n
  revert h
  generalize val_main_v18 (F := Ideal) x0 x2 x14 = s
  intro h
  pointwise [h]
  rfl

theorem v_apply (n : Fin 2048) (j : Fin 1024) : val_main_v25 (F := Ideal) x0 x2 x5 x14 (ix3 (0 : Fin 1) n j) = proj (Inp.xn 𝓘) (Inp.wv 𝓘) n j := by
  unfold val_main_v25
  have h := xn_apply x0 x1 x2 x3 x4 x5 x6 x7 x8 x9 x10 x11 x12 x13 x14 n
  revert h
  generalize val_main_v18 (F := Ideal) x0 x2 x14 = s
  intro h
  pointwise [h]
  rfl

theorem g_apply (n : Fin 2048) (j : Fin 64) : val_main_v28 (F := Ideal) x0 x2 x7 x14 (ix3 (0 : Fin 1) n j) = proj (Inp.xn 𝓘) (Inp.wg 𝓘) n j := by
  unfold val_main_v28
  have h := xn_apply x0 x1 x2 x3 x4 x5 x6 x7 x8 x9 x10 x11 x12 x13 x14 n
  revert h
  generalize val_main_v18 (F := Ideal) x0 x2 x14 = s
  intro h
  pointwise [h]
  rfl

theorem qh_apply (h : Fin 16) (n : Fin 2048) (d : Fin 64) :
    val_main_v21 (F := Ideal) x0 x2 x3 x14 (ix4 (0 : Fin 1) h n d) = proj (Inp.xn 𝓘) (Inp.wq 𝓘) n (hd h d) := by
  unfold val_main_v21 val_main_v20
  refine Eq.trans ?_ (q_apply x0 x1 x2 x3 x4 x5 x6 x7 x8 x9 x10 x11 x12 x13 x14 n (hd h d))
  generalize val_main_v19 (F := Ideal) x0 x2 x3 x14 = s
  pointwise
  exact congrArg (fun z : Fin 1024 => s (ix3 (0 : Fin 1) n z)) (Fin.ext (by show h.val * 64 + d.val = 64 * h.val + d.val; omega))

theorem kh_apply (h : Fin 16) (n : Fin 2048) (d : Fin 64) :
    val_main_v24 (F := Ideal) x0 x2 x4 x14 (ix4 (0 : Fin 1) h n d) = proj (Inp.xn 𝓘) (Inp.wk 𝓘) n (hd h d) := by
  unfold val_main_v24 val_main_v23
  refine Eq.trans ?_ (k_apply x0 x1 x2 x3 x4 x5 x6 x7 x8 x9 x10 x11 x12 x13 x14 n (hd h d))
  generalize val_main_v22 (F := Ideal) x0 x2 x4 x14 = s
  pointwise
  exact congrArg (fun z : Fin 1024 => s (ix3 (0 : Fin 1) n z)) (Fin.ext (by show h.val * 64 + d.val = 64 * h.val + d.val; omega))

theorem vh_apply (h : Fin 16) (n : Fin 2048) (d : Fin 64) :
    val_main_v27 (F := Ideal) x0 x2 x5 x14 (ix4 (0 : Fin 1) h n d) = proj (Inp.xn 𝓘) (Inp.wv 𝓘) n (hd h d) := by
  unfold val_main_v27 val_main_v26
  refine Eq.trans ?_ (v_apply x0 x1 x2 x3 x4 x5 x6 x7 x8 x9 x10 x11 x12 x13 x14 n (hd h d))
  generalize val_main_v25 (F := Ideal) x0 x2 x5 x14 = s
  pointwise
  exact congrArg (fun z : Fin 1024 => s (ix3 (0 : Fin 1) n z)) (Fin.ext (by show h.val * 64 + d.val = 64 * h.val + d.val; omega))

theorem div8 (x : EReal) : Ideal.div x (Ideal.ofBits .f32 0x41000000#32) = x * EIGHTH := by
  have e : Ideal.ofBits .f32 0x41000000#32 = ((8 : ℝ) : EReal) := by simp [Ideal.ofBits, Ideal.ieee, -EReal.coe_mul]; norm_num
  have e' : EIGHTH = ((1 / 8 : ℝ) : EReal) := by simp [EIGHTH, Ideal.ofBits, Ideal.ieee, -EReal.coe_mul]; norm_num
  rw [e, e', Ideal.div_coe (by norm_num)]

theorem gg_apply (n p : Fin 2048) :
    val_main_v31 (F := Ideal) x0 x2 x7 x14 (ix3 (0 : Fin 1) n p) =
      (∑ d : Fin 64, proj (Inp.xn 𝓘) (Inp.wg 𝓘) n d * proj (Inp.xn 𝓘) (Inp.wg 𝓘) p d) * EIGHTH := by
  unfold val_main_v31 val_main_v30 val_main_v29 val_main_cst_4
  have h := g_apply x0 x1 x2 x3 x4 x5 x6 x7 x8 x9 x10 x11 x12 x13 x14
  revert h
  generalize val_main_v28 (F := Ideal) x0 x2 x7 x14 = s
  intro h
  pointwise [h]
  exact div8 _

theorem s_apply (h : Fin 16) (n p : Fin 2048) :
    val_main_v39 (F := Ideal) x0 x1 x2 x3 x4 x7 x14 (ix4 (0 : Fin 1) h n p) = Inp.s 𝓘 h n p := by
  unfold val_main_v39 val_main_v38 val_main_v37 val_main_v36 val_main_v35 val_main_v34 val_main_v33 val_main_v32 val_main_cst_5
  have h1 := qh_apply x0 x1 x2 x3 x4 x5 x6 x7 x8 x9 x10 x11 x12 x13 x14
  have h2 := kh_apply x0 x1 x2 x3 x4 x5 x6 x7 x8 x9 x10 x11 x12 x13 x14
  have h3 := gg_apply x0 x1 x2 x3 x4 x5 x6 x7 x8 x9 x10 x11 x12 x13 x14
  revert h1 h2 h3
  generalize val_main_v21 (F := Ideal) x0 x2 x3 x14 = q
  generalize val_main_v24 (F := Ideal) x0 x2 x4 x14 = k
  generalize val_main_v31 (F := Ideal) x0 x2 x7 x14 = g
  intro h1 h2 h3
  pointwise [h1, h2, h3]
  rw [div8]
  rfl

end

end Cert.ReferenceIdeal.Score
-- ==== Proof.RefTop.lean ====
module

public import proofs.«01_k».proof.Proof.RefScore

/-! The reference's largest scores and their positions. -/

@[expose] public section

set_option maxRecDepth 16384

namespace Cert.ReferenceIdeal.Top

open Cert.ReferenceIdeal Cert.ReferenceIdeal.Gen Cert.ReferenceIdeal.Read Cert.Rows Cert.KernelIdeal.Attn Cert.KernelIdeal.Body Cert.Spec
open Idealize.ShloMosaic Idealize.ShloMosaic.TcCoe

noncomputable section

/-- The position a stable sort of one row, greatest first, puts at each of the first places. -/
theorem sorted_row (x : FVec Ideal S1x16x2048x2048 .f32) (h : Fin 16) (n : Fin 2048) (hc : ∀ p : Fin 2048, NEG < x (ix4 (0 : Fin 1) h n p))
    (i : Fin 32) :
    sortedFrom (fun k k' : Fin 2048 => FloatOps.cmpfTotal (F := Ideal) .gt (x (ix4 (0 : Fin 1) h n k)) (x (ix4 (0 : Fin 1) h n k')) == 1#1)
        (i.castLE (by omega)) = top (fun p => x (ix4 (0 : Fin 1) h n p)) i := by
  refine sortedFrom_eq_sel pos2048 NEG (fun p => x (ix4 (0 : Fin 1) h n p)) hc _ (fun a b => ?_) 32 (by omega) i
  rw [Ideal.cmpfTotal_def]
  unfold Ideal.cmp CmpDirection.ordered
  dsimp only
  by_cases e : x (ix4 (0 : Fin 1) h n b) < x (ix4 (0 : Fin 1) h n a)
  · simp [e]
  · simp [e]

theorem along_eq (h : Fin 16) (n : Fin 2048) (k p : Fin 2048) :
    (ix4 (0 : Fin 1) h n p : S1x16x2048x2048.Idx).along (3 : Fin 4) k = ix4 (0 : Fin 1) h n k := by
  funext a
  fin_cases a <;> rfl

theorem topK_row (x : FVec Ideal S1x16x2048x2048 .f32) (h : Fin 16) (n : Fin 2048) (hc : ∀ p : Fin 2048, NEG < x (ix4 (0 : Fin 1) h n p))
    (hs : S1x16x2048x2048.Slices (fun _ => 0) S1x16x2048x32) (i : Fin 32) :
    (Host.topK S1x16x2048x32 3 (FloatOps.cmpfTotal (F := Ideal) .gt) x hs).1 (ix4 (0 : Fin 1) h n i) =
        x (ix4 (0 : Fin 1) h n (top (fun p => x (ix4 (0 : Fin 1) h n p)) i)) ∧
      (Host.topK S1x16x2048x32 3 (FloatOps.cmpfTotal (F := Ideal) .gt) x hs).2 (ix4 (0 : Fin 1) h n i) =
        BitVec.ofNat 32 (top (fun p => x (ix4 (0 : Fin 1) h n p)) i).val := by
  have e := sorted_row x h n hc i
  have ea : ∀ z k : Fin 2048, (ix4 (0 : Fin 1) h n z : S1x16x2048x2048.Idx).along (3 : Fin 4) k = ix4 (0 : Fin 1) h n k := fun z k => along_eq h n k z
  have es : ∀ z z' : Fin 2048, z' = i.castLE (by omega) →
      sortedFrom (fun k k' : Fin 2048 => FloatOps.cmpfTotal (F := Ideal) .gt (x ((ix4 (0 : Fin 1) h n z : S1x16x2048x2048.Idx).along (3 : Fin 4) k))
        (x ((ix4 (0 : Fin 1) h n z : S1x16x2048x2048.Idx).along (3 : Fin 4) k')) == 1#1) z' = top (fun p => x (ix4 (0 : Fin 1) h n p)) i := by
    intro z z' hz
    subst hz
    refine Eq.trans (congrArg (fun B => sortedFrom B _) (funext fun k => funext fun k' => ?_)) e
    rw [ea z k, ea z k']
  constructor
  · unfold Host.topK Host.sort2
    dsimp only
    rw [dif_pos (by decide)]
    dsimp only
    pointwise
    exact (congrArg x (ea _ _)).trans (congrArg (fun p => x (ix4 (0 : Fin 1) h n p)) (es _ _ rfl))
  · unfold Host.topK Host.sort2
    dsimp only
    rw [dif_pos (by decide)]
    dsimp only
    pointwise
    exact congrArg (BitVec.ofNat 32)
      ((congrArg (fun y : S1x16x2048x2048.Idx => (y (3 : Fin 4)).val) (ea _ _)).trans (congrArg Fin.val (es _ _ rfl)))

variable (x0 : FVec Ideal ⟨3, ![1, 2048, 1024]⟩ .f32) (x1 : FVec Ideal ⟨4, ![1, 1, 2048, 2048]⟩ .f32) (x2 : FVec Ideal ⟨1, ![1024]⟩ .f32)
  (x3 x4 x5 x6 : FVec Ideal ⟨2, ![1024, 1024]⟩ .f32) (x7 : FVec Ideal ⟨2, ![1024, 64]⟩ .f32) (x8 : FVec Ideal ⟨2, ![1024, 4096]⟩ .f32)
  (x9 : FVec Ideal ⟨1, ![4096]⟩ .f32) (x10 : FVec Ideal ⟨2, ![4096, 1024]⟩ .f32) (x11 : FVec Ideal ⟨1, ![1024]⟩ .f32)
  (x12 x13 x14 : FVec Ideal ⟨0, ![]⟩ .f32)

local notation "𝓘" => inp x0 x1 x2 x3 x4 x5 x6 x7 x8 x9 x10 x11 x12 x13 x14

theorem top_apply (hc : ∀ h n p, NEG < Inp.s 𝓘 h n p) (h : Fin 16) (n : Fin 2048) (i : Fin 32) :
    val_main_values (F := Ideal) x0 x1 x2 x3 x4 x7 x14 (ix4 (0 : Fin 1) h n i) = Inp.s 𝓘 h n (top (Inp.s 𝓘 h n) i) ∧
      val_main_indices (F := Ideal) x0 x1 x2 x3 x4 x7 x14 (ix4 (0 : Fin 1) h n i) = BitVec.ofNat 32 (top (Inp.s 𝓘 h n) i).val := by
  have e := fun h n p => Score.s_apply x0 x1 x2 x3 x4 x5 x6 x7 x8 x9 x10 x11 x12 x13 x14 h n p
  have es : Inp.s 𝓘 h n = fun p => val_main_v39 (F := Ideal) x0 x1 x2 x3 x4 x7 x14 (ix4 (0 : Fin 1) h n p) := funext fun p => (e h n p).symm
  have hh : ∀ p, NEG < val_main_v39 (F := Ideal) x0 x1 x2 x3 x4 x7 x14 (ix4 (0 : Fin 1) h n p) := fun p => by rw [e]; exact hc h n p
  rw [es]
  exact topK_row _ h n hh _ i

end

end Cert.ReferenceIdeal.Top
-- ==== Proof.RefAttn.lean ====
module

public import proofs.«01_k».proof.Proof.RefTop

/-! The reference's softmax over the largest scores, and its read of the value rows through their positions. -/

@[expose] public section

set_option maxRecDepth 16384

namespace Cert.ReferenceIdeal.RAttn

open Cert.ReferenceIdeal Cert.ReferenceIdeal.Gen Cert.ReferenceIdeal.Read Cert.Rows Cert.KernelIdeal.Attn Cert.KernelIdeal.Body Cert.Spec
open Idealize.ShloMosaic Idealize.ShloMosaic.TcCoe

noncomputable section

/-- The greatest of the largest scores is the row's greatest. -/
theorem fold_top (s : Fin 2048 → EReal) (b : EReal) (hb : b = ⊥) :
    (Finset.univ : Finset (Fin 32)).fold max b (fun i => s (top s i)) = s (pick pos2048 s) := by
  subst hb
  refine le_antisymm ?_ ?_
  · exact (Finset.fold_max_le _).mpr ⟨bot_le, fun i _ => le_pick pos2048 s _⟩
  · exact (Finset.le_fold_max _).mpr (Or.inr ⟨0, Finset.mem_univ _, le_refl _⟩)

theorem word_toInt (p : Fin 2048) : (BitVec.ofNat 32 p.val).toInt = p.val := by
  have h : (BitVec.ofNat 32 p.val).toNat = p.val := by
    rw [BitVec.toNat_ofNat]
    have := p.isLt
    omega
  rw [BitVec.toInt_eq_toNat_of_lt (by rw [h]; have := p.isLt; omega), h]

/-- The gather of a head's rows at row numbers in range. -/
theorem gather_rows (x : FVec Ideal S1x16x2048x64 .f32) (idx : IVec S16x2048x32x1 32) (h : Fin 16) (n : Fin 2048) (i : Fin 32) (d : Fin 64)
    (p : Fin 2048) (hp : idx (ix4 h n i (0 : Fin 1)) = BitVec.ofNat 32 p.val) :
    Host.gather gather_S1x16x2048x64_S16x2048x32x1_S1x16x2048x32x64_04_2_1_0_2_3_11164 x idx (ix5 (0 : Fin 1) h n i d) =
      x (ix4 (0 : Fin 1) h p d) := by
  unfold Host.gather
  refine congrArg x ?_
  have hi : (idx (ix4 h n i (0 : Fin 1))).toInt.toNat = p.val := by
    rw [hp, word_toInt]
    rfl
  have hs : GatherDims.siIdx gather_S1x16x2048x64_S16x2048x32x1_S1x16x2048x32x64_04_2_1_0_2_3_11164 (ix5 (0 : Fin 1) h n i d)
      ⟨0, by decide⟩ = ix4 h n i (0 : Fin 1) := by
    funext b; refine Fin.ext ?_
    match b with
    | ⟨0, _⟩ => rfl
    | ⟨1, _⟩ => rfl
    | ⟨2, _⟩ => rfl
    | ⟨3, _⟩ => rfl
  funext a
  refine Fin.ext ?_
  match a with
  | ⟨0, _⟩ => rfl
  | ⟨1, _⟩ => show 0 + h.val + 0 = h.val; omega
  | ⟨2, _⟩ =>
    show min (idx (GatherDims.siIdx gather_S1x16x2048x64_S16x2048x32x1_S1x16x2048x32x64_04_2_1_0_2_3_11164 (ix5 (0 : Fin 1) h n i d)
      ⟨0, _⟩)).toInt.toNat (2048 - 1) + 0 + 0 = p.val
    rw [hs, hi]
    have := p.isLt
    omega
  | ⟨3, _⟩ => show 0 + 0 + d.val = d.val; omega

theorem pos_cmp (p : Fin 2048) :
    IntOp.cmpi .slt (BitVec.ofNat 32 p.val) 0#32 = 0#1 ∧ IntOp.cmpi .sge (BitVec.ofNat 32 p.val) 0#32 = 1#1 ∧
      IntOp.cmpi .sle (BitVec.ofNat 32 p.val) 2047#32 = 1#1 := by
  have e := word_toInt p
  have h := p.isLt
  unfold IntOp.cmpi
  have h1 : ¬ ((p.val : Int) < 0) := by omega
  have h2 : p.val ≤ 2047 := by omega
  refine ⟨?_, ?_, ?_⟩ <;> simp [BitVec.slt, BitVec.sle, e, h1, h2]

variable (x0 : FVec Ideal ⟨3, ![1, 2048, 1024]⟩ .f32) (x1 : FVec Ideal ⟨4, ![1, 1, 2048, 2048]⟩ .f32) (x2 : FVec Ideal ⟨1, ![1024]⟩ .f32)
  (x3 x4 x5 x6 : FVec Ideal ⟨2, ![1024, 1024]⟩ .f32) (x7 : FVec Ideal ⟨2, ![1024, 64]⟩ .f32) (x8 : FVec Ideal ⟨2, ![1024, 4096]⟩ .f32)
  (x9 : FVec Ideal ⟨1, ![4096]⟩ .f32) (x10 : FVec Ideal ⟨2, ![4096, 1024]⟩ .f32) (x11 : FVec Ideal ⟨1, ![1024]⟩ .f32)
  (x12 x13 x14 : FVec Ideal ⟨0, ![]⟩ .f32)

local notation "𝓘" => inp x0 x1 x2 x3 x4 x5 x6 x7 x8 x9 x10 x11 x12 x13 x14

theorem max_apply (hc : ∀ h n p, NEG < Inp.s 𝓘 h n p) (h : Fin 16) (n : Fin 2048) :
    val_main_v42 (F := Ideal) x0 x1 x2 x3 x4 x7 x14 (ix3 (0 : Fin 1) h n) = Inp.s 𝓘 h n (pick pos2048 (Inp.s 𝓘 h n)) := by
  have hv := fun i => (Top.top_apply x0 x1 x2 x3 x4 x5 x6 x7 x8 x9 x10 x11 x12 x13 x14 hc h n i).1
  have hb : Ideal.ofBits .f32 0xFF800000#32 = ⊥ := ofBits_negInf
  have hf := fold_top (Inp.s 𝓘 h n) _ hb
  unfold val_main_v42 val_main_v41 val_main_v40 val_main_cst_6 val_main_cst_7
  revert hv
  generalize val_main_values (F := Ideal) x0 x1 x2 x3 x4 x7 x14 = t
  intro hv
  pointwise [hv]
  rw [hf, hb]
  exact max_eq_right bot_le

theorem topW_apply (hc : ∀ h n p, NEG < Inp.s 𝓘 h n p) (h : Fin 16) (n : Fin 2048) (i : Fin 32) :
    val_main_v46 (F := Ideal) x0 x1 x2 x3 x4 x7 x14 (ix4 (0 : Fin 1) h n i) = topW (Inp.s 𝓘 h n) i := by
  have hv := fun i => (Top.top_apply x0 x1 x2 x3 x4 x5 x6 x7 x8 x9 x10 x11 x12 x13 x14 hc h n i).1
  have hm := max_apply x0 x1 x2 x3 x4 x5 x6 x7 x8 x9 x10 x11 x12 x13 x14 hc h n
  unfold val_main_v46 val_main_v45 val_main_v44 val_main_v43
  revert hv hm
  generalize val_main_values (F := Ideal) x0 x1 x2 x3 x4 x7 x14 = t
  generalize val_main_v42 (F := Ideal) x0 x1 x2 x3 x4 x7 x14 = m
  intro hv hm
  pointwise [hv, hm]
  rfl

theorem soft_apply (hc : ∀ h n p, NEG < Inp.s 𝓘 h n p) (h : Fin 16) (n : Fin 2048) (i : Fin 32) :
    val_main_v50 (F := Ideal) x0 x1 x2 x3 x4 x7 x14 (ix4 (0 : Fin 1) h n i) =
      Ideal.div (topW (Inp.s 𝓘 h n) i) (∑ r : Fin 32, topW (Inp.s 𝓘 h n) r) := by
  have hv := topW_apply x0 x1 x2 x3 x4 x5 x6 x7 x8 x9 x10 x11 x12 x13 x14 hc h n
  unfold val_main_v50 val_main_v49 val_main_v48 val_main_v47 val_main_cst_8
  revert hv
  generalize val_main_v46 (F := Ideal) x0 x1 x2 x3 x4 x7 x14 = t
  intro hv
  pointwise [hv]

theorem pos_apply (hc : ∀ h n p, NEG < Inp.s 𝓘 h n p) (h : Fin 16) (n : Fin 2048) (i : Fin 32) :
    val_main_call0_v5 (F := Ideal) x0 x1 x2 x3 x4 x7 x14 (ix4 h n i (0 : Fin 1)) = BitVec.ofNat 32 (top (Inp.s 𝓘 h n) i).val := by
  have hv := (Top.top_apply x0 x1 x2 x3 x4 x5 x6 x7 x8 x9 x10 x11 x12 x13 x14 hc h n i).2
  unfold val_main_call0_v5 val_main_call0_v4 val_main_call0_v3 val_main_call0_v2 val_main_call0_v1 val_main_call0_v0 val_main_call0_c val_main_call0_c_0 val_main_v52
  revert hv
  generalize val_main_indices (F := Ideal) x0 x1 x2 x3 x4 x7 x14 = t
  intro hv
  pointwise [hv]
  rw [(pos_cmp _).1]
  rfl

theorem ok_apply (hc : ∀ h n p, NEG < Inp.s 𝓘 h n p) (h : Fin 16) (n : Fin 2048) (i : Fin 32) :
    val_main_call0_v13 (F := Ideal) x0 x1 x2 x3 x4 x7 x14 (ix3 h n i) = 1#1 := by
  have hv := pos_apply x0 x1 x2 x3 x4 x5 x6 x7 x8 x9 x10 x11 x12 x13 x14 hc h n i
  unfold val_main_call0_v13 val_main_call0_v12 val_main_call0_v11 val_main_call0_v10 val_main_call0_v9 val_main_call0_v8 val_main_call0_v7 val_main_call0_c_1 val_main_call0_c_2 val_main_call0_c_3
  revert hv
  generalize val_main_call0_v5 (F := Ideal) x0 x1 x2 x3 x4 x7 x14 = t
  intro hv
  pointwise [hv]
  have hx : ∀ x : Fin 1, t (ix4 h n i x) = BitVec.ofNat 32 (top (Inp.s 𝓘 h n) i).val := fun x => by
    obtain rfl : x = 0 := Subsingleton.elim _ _
    exact hv
  simp only [hx, (pos_cmp _).2.1, (pos_cmp _).2.2]
  rfl

theorem take_apply (hc : ∀ h n p, NEG < Inp.s 𝓘 h n p) (h : Fin 16) (n : Fin 2048) (i : Fin 32) (d : Fin 64) :
    val_main_v53 (F := Ideal) x0 x1 x2 x3 x4 x5 x7 x14 (ix5 (0 : Fin 1) h n i d) =
      proj (Inp.xn 𝓘) (Inp.wv 𝓘) (top (Inp.s 𝓘 h n) i) (hd h d) := by
  have ho := ok_apply x0 x1 x2 x3 x4 x5 x6 x7 x8 x9 x10 x11 x12 x13 x14 hc h n i
  have hp := pos_apply x0 x1 x2 x3 x4 x5 x6 x7 x8 x9 x10 x11 x12 x13 x14 hc h n i
  have hg := gather_rows (val_main_call0_v6 (F := Ideal) x0 x2 x5 x14) _ h n i d _ hp
  have hv := Score.vh_apply x0 x1 x2 x3 x4 x5 x6 x7 x8 x9 x10 x11 x12 x13 x14 h (top (Inp.s 𝓘 h n) i) d
  have h6 : val_main_call0_v6 (F := Ideal) x0 x2 x5 x14 (ix4 (0 : Fin 1) h (top (Inp.s 𝓘 h n) i) d) =
      proj (Inp.xn 𝓘) (Inp.wv 𝓘) (top (Inp.s 𝓘 h n) i) (hd h d) := by
    refine Eq.trans ?_ hv
    unfold val_main_call0_v6 val_main_v51
    generalize val_main_v27 (F := Ideal) x0 x2 x5 x14 = t
    generalize top (Inp.s 𝓘 h n) i = p
    pointwise
  unfold val_main_v53 val_main_call0_v15 val_main_call0_v14
  revert ho hg
  generalize val_main_call0_v13 (F := Ideal) x0 x1 x2 x3 x4 x7 x14 = o
  generalize Host.gather _ _ _ = g
  intro ho hg
  refine Eq.trans ?_ (hg.trans h6)
  pointwise [ho]

theorem sum_mul_coe {ι : Type} (t : Finset ι) (f : ι → EReal) (c : ℝ) (hc : 0 ≤ c) : (∑ i ∈ t, f i * (c : EReal)) = (∑ i ∈ t, f i) * (c : EReal) := by
  classical
  induction t using Finset.induction_on with
  | empty => simp
  | insert a t ha ih =>
    rw [Finset.sum_insert ha, Finset.sum_insert ha, ih, mul_comm (f a), mul_comm (∑ i ∈ t, f i), mul_comm (f a + _)]
    exact (EReal.left_distrib_of_nonneg_of_ne_top (EReal.coe_nonneg.mpr hc) (EReal.coe_ne_top c) _ _).symm

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The weights' sum is a positive number. -/
theorem wsum_pos (s : Fin 2048 → EReal) (hb : ∀ p, NEG < s p) (ht : ∀ p, s p < ⊤) :
    ∃ r : ℝ, 0 < r ∧ (∑ i : Fin 32, topW s i) = (r : EReal) := by
  have hr : ∀ p, ∃ x : ℝ, s p = (x : EReal) := fun p =>
    ⟨(s p).toReal, (EReal.coe_toReal (ht p).ne (lt_of_le_of_lt bot_le (hb p)).ne').symm⟩
  choose x hx using hr
  have hw : ∀ i, topW s i = ((Real.exp (x (top s i) - x (pick pos2048 s)) : ℝ) : EReal) := fun i => by
    unfold topW
    rw [hx, hx, ← EReal.coe_sub]
    rfl
  refine ⟨∑ i : Fin 32, Real.exp (x (top s i) - x (pick pos2048 s)), Finset.sum_pos (fun i _ => Real.exp_pos _) ⟨0, Finset.mem_univ _⟩, ?_⟩
  rw [coe_sum]
  exact Finset.sum_congr rfl fun i _ => hw i

/-- Normalising each weight first is normalising the weighted sum. -/
theorem attn_eq (s v : Fin 2048 → EReal) (hb : ∀ p, NEG < s p) (ht : ∀ p, s p < ⊤) :
    (∑ i : Fin 32, Ideal.div (topW s i) (∑ r : Fin 32, topW s r) * v (top s i)) = attn s v := by
  obtain ⟨r, hr, e⟩ := wsum_pos s hb ht
  unfold attn
  rw [e, Ideal.div_coe hr.ne', ← sum_mul_coe _ _ _ (by positivity)]
  refine Finset.sum_congr rfl fun i _ => ?_
  rw [Ideal.div_coe hr.ne', mul_right_comm]

theorem attn_apply (hc : ∀ h n p, NEG < Inp.s 𝓘 h n p) (ht : ∀ h n p, Inp.s 𝓘 h n p < ⊤) (h : Fin 16) (n : Fin 2048) (d : Fin 64) :
    val_main_v54 (F := Ideal) x0 x1 x2 x3 x4 x5 x7 x14 (ix4 (0 : Fin 1) h n d) =
      attn (Inp.s 𝓘 h n) (fun p => proj (Inp.xn 𝓘) (Inp.wv 𝓘) p (hd h d)) := by
  have h1 := soft_apply x0 x1 x2 x3 x4 x5 x6 x7 x8 x9 x10 x11 x12 x13 x14 hc h n
  have h2 := fun i => take_apply x0 x1 x2 x3 x4 x5 x6 x7 x8 x9 x10 x11 x12 x13 x14 hc h n i d
  refine Eq.trans ?_ (attn_eq _ _ (hc h n) (ht h n))
  unfold val_main_v54
  revert h1 h2
  generalize val_main_v50 (F := Ideal) x0 x1 x2 x3 x4 x7 x14 = a
  generalize val_main_v53 (F := Ideal) x0 x1 x2 x3 x4 x5 x7 x14 = b
  intro h1 h2
  pointwise [h1, h2]

end

end Cert.ReferenceIdeal.RAttn
-- ==== Proof.RefOut.lean ====
module

public import proofs.«01_k».proof.Proof.RefScore

/-! The reference's gates, feed-forward branch and last product, read at their coordinates. -/

@[expose] public section

set_option maxRecDepth 16384

namespace Cert.ReferenceIdeal.Outer

open Cert.ReferenceIdeal Cert.ReferenceIdeal.Gen Cert.ReferenceIdeal.Read Cert.Rows Cert.KernelIdeal.Attn Cert.KernelIdeal.Body Cert.Spec
open Cert.ReferenceIdeal.Score
open Idealize.ShloMosaic Idealize.ShloMosaic.TcCoe

noncomputable section

variable (x0 : FVec Ideal ⟨3, ![1, 2048, 1024]⟩ .f32) (x1 : FVec Ideal ⟨4, ![1, 1, 2048, 2048]⟩ .f32) (x2 : FVec Ideal ⟨1, ![1024]⟩ .f32)
  (x3 x4 x5 x6 : FVec Ideal ⟨2, ![1024, 1024]⟩ .f32) (x7 : FVec Ideal ⟨2, ![1024, 64]⟩ .f32) (x8 : FVec Ideal ⟨2, ![1024, 4096]⟩ .f32)
  (x9 : FVec Ideal ⟨1, ![4096]⟩ .f32) (x10 : FVec Ideal ⟨2, ![4096, 1024]⟩ .f32) (x11 : FVec Ideal ⟨1, ![1024]⟩ .f32)
  (x12 x13 x14 : FVec Ideal ⟨0, ![]⟩ .f32)

local notation "𝓘" => inp x0 x1 x2 x3 x4 x5 x6 x7 x8 x9 x10 x11 x12 x13 x14

theorem al_apply (y : S_.Idx) : val_main_v82 (F := Ideal) x12 y = sig1 (x12 ValueIdx.ix0) := by
  obtain rfl : y = ValueIdx.ix0 := funext fun a => a.elim0
  unfold val_main_v82 val_main_v81 val_main_v80 val_main_v79 val_main_cst_13 val_main_cst_14 sig1
  pointwise

theorem be_apply (y : S_.Idx) : val_main_v88 (F := Ideal) x13 y = sig1 (x13 ValueIdx.ix0) := by
  obtain rfl : y = ValueIdx.ix0 := funext fun a => a.elim0
  unfold val_main_v88 val_main_v87 val_main_v86 val_main_v85 val_main_cst_15 val_main_cst_16 sig1
  pointwise

theorem u_apply (n : Fin 2048) (m : Fin 4096) :
    val_main_v61 (F := Ideal) x0 x2 x8 x9 x14 (ix3 (0 : Fin 1) n m) = (∑ k : Fin 1024, Inp.xn 𝓘 n k * Inp.w1 𝓘 k m) + Inp.b1 𝓘 m := by
  unfold val_main_v61 val_main_v60 val_main_v59 val_main_v58
  have h := xn_apply x0 x1 x2 x3 x4 x5 x6 x7 x8 x9 x10 x11 x12 x13 x14 n
  revert h
  generalize val_main_v18 (F := Ideal) x0 x2 x14 = s
  intro h
  pointwise [h]
  rfl

theorem gelu_apply (n : Fin 2048) (m : Fin 4096) :
    val_main_v74 (F := Ideal) x0 x2 x8 x9 x14 (ix3 (0 : Fin 1) n m) = gelu ((∑ k : Fin 1024, Inp.xn 𝓘 n k * Inp.w1 𝓘 k m) + Inp.b1 𝓘 m) := by
  have h := u_apply x0 x1 x2 x3 x4 x5 x6 x7 x8 x9 x10 x11 x12 x13 x14 n m
  unfold val_main_v74 val_main_v73 val_main_v72 val_main_v71 val_main_v70 val_main_v69 val_main_v68 val_main_v67 val_main_v66 val_main_v65 val_main_v64 val_main_v63 val_main_v62 val_main_cst_9 val_main_cst_10 val_main_cst_11 val_main_cst_12
  revert h
  generalize val_main_v61 (F := Ideal) x0 x2 x8 x9 x14 = u
  intro h
  pointwise [h]
  have e1 : Ideal.ofBits .f32 0x3F800000#32 = 1 := by pointwise
  unfold gelu
  rw [e1, mul_assoc (_ + _) (_ + _) (_ + _)]

theorem ffn_apply (n : Fin 2048) (j : Fin 1024) :
    val_main_v84 (F := Ideal) x0 x2 x8 x9 x10 x11 x12 x14 (ix3 (0 : Fin 1) n j) =
      ffn (sig1 (Inp.al 𝓘)) (Inp.xn 𝓘) (Inp.w1 𝓘) (Inp.b1 𝓘) (Inp.w2 𝓘) (Inp.b2 𝓘) n j := by
  unfold val_main_v84 val_main_v83 val_main_v78 val_main_v77 val_main_v76 val_main_v75
  have h := gelu_apply x0 x1 x2 x3 x4 x5 x6 x7 x8 x9 x10 x11 x12 x13 x14 n
  have ha := al_apply x12 ValueIdx.ix0
  revert h ha
  generalize val_main_v74 (F := Ideal) x0 x2 x8 x9 x14 = u
  generalize val_main_v82 (F := Ideal) x12 = a
  intro h ha
  pointwise [h]
  exact congrArg (· * ((∑ x : Fin 4096, gelu ((∑ k : Fin 1024, Inp.xn 𝓘 n k * Inp.w1 𝓘 k x) + Inp.b1 𝓘 x) * x10 (ix2 x j)) + x11 (ix1 j))) ha

/-- The layer's output, from the attention's rows. -/
theorem res_apply (hat : ∀ h n d, val_main_v54 (F := Ideal) x0 x1 x2 x3 x4 x5 x7 x14 (ix4 (0 : Fin 1) h n d) =
      attn (Inp.s 𝓘 h n) (fun p => proj (Inp.xn 𝓘) (Inp.wv 𝓘) p (hd h d))) (n : Fin 2048) (j : Fin 1024) :
    val_main_v91 (F := Ideal) x0 x1 x2 x3 x4 x5 x6 x7 x8 x9 x10 x11 x12 x13 x14 (ix3 (0 : Fin 1) n j) = Inp.out 𝓘 n j := by
  unfold val_main_v91 val_main_v90 val_main_v89 val_main_v57 val_main_v56 val_main_v55
  have h := ffn_apply x0 x1 x2 x3 x4 x5 x6 x7 x8 x9 x10 x11 x12 x13 x14 n j
  have ha := be_apply x13 ValueIdx.ix0
  revert h ha hat
  generalize val_main_v84 (F := Ideal) x0 x2 x8 x9 x10 x11 x12 x14 = f
  generalize val_main_v54 (F := Ideal) x0 x1 x2 x3 x4 x5 x7 x14 = t
  generalize val_main_v88 (F := Ideal) x13 = a
  intro hat h ha
  pointwise [h]
  refine congrArg₂ (· + ·) rfl (congrArg₂ (· * ·) ha (Finset.sum_congr rfl fun k _ => congrArg (· * x6 (ix2 k j)) ?_))
  refine (hat _ n _).trans (congrArg (attn _) (funext fun p => congrArg (proj _ _ p) (Fin.ext ?_)))
  exact Nat.div_add_mod k.val 64

end

end Cert.ReferenceIdeal.Outer
-- ==== Proof.RefVal.lean ====
module

public import proofs.«01_k».proof.Proof.RefAttn
public import proofs.«01_k».proof.Proof.RefOut
public import proofs.«01_k».proof.Pre_scores_in_range

/-! The reference's two results as functions of its arguments, and what the precondition says of its scores. -/

@[expose] public section

set_option maxRecDepth 16384

namespace Cert.ReferenceIdeal.RVal

open Cert.ReferenceIdeal Cert.ReferenceIdeal.Gen Cert.ReferenceIdeal.Read Cert.Rows Cert.KernelIdeal.Attn Cert.KernelIdeal.Body Cert.Spec
open Idealize.ShloMosaic Idealize.ShloMosaic.TcCoe

noncomputable section

/-- The side conditions of the precondition's operations. -/
theorem preFacts : Cert.Pre_scores_in_range.Facts where
  bcast_S_S1x2048x1024 := Cert.ReferenceIdeal.Gen.facts.bcast_S_S1x2048x1024
  reducesTo_S1x2048x1024_S1x2048_d2 := Cert.ReferenceIdeal.Gen.facts.reducesTo_S1x2048x1024_S1x2048_d2
  h_S_ := Cert.ReferenceIdeal.Gen.facts.h_S_
  bcast_S1x2048_S1x2048x1_0_1 := Cert.ReferenceIdeal.Gen.facts.bcast_S1x2048_S1x2048x1_0_1
  bcast_S_S1x2048x1 := Cert.ReferenceIdeal.Gen.facts.bcast_S_S1x2048x1
  bcast_S1x2048x1_S1x2048x1024_0_1_2 := Cert.ReferenceIdeal.Gen.facts.bcast_S1x2048x1_S1x2048x1024_0_1_2
  bcast_S1024_S1x1x1024_2 := Cert.ReferenceIdeal.Gen.facts.bcast_S1024_S1x1x1024_2
  bcast_S1x1x1024_S1x2048x1024_0_1_2 := Cert.ReferenceIdeal.Gen.facts.bcast_S1x1x1024_S1x2048x1024_0_1_2
  shapeCasts_S1x2048x1024_S1x2048x16x64 := Cert.ReferenceIdeal.Gen.facts.shapeCasts_S1x2048x1024_S1x2048x16x64
  transposes_S1x2048x16x64_S1x16x2048x64_0_2_1_3 := Cert.ReferenceIdeal.Gen.facts.transposes_S1x2048x16x64_S1x16x2048x64_0_2_1_3
  bcast_S_S1x2048x2048 := Cert.ReferenceIdeal.Gen.facts.bcast_S_S1x2048x2048
  bcast_S_S1x16x2048x2048 := Cert.ReferenceIdeal.Gen.facts.bcast_S_S1x16x2048x2048
  bcast_S1x1x2048x2048_S1x16x2048x2048_0_1_2_3 := Cert.ReferenceIdeal.Gen.facts.bcast_S1x1x2048x2048_S1x16x2048x2048_0_1_2_3
  bcast_S1x2048x2048_S1x1x2048x2048_0_2_3 := Cert.ReferenceIdeal.Gen.facts.bcast_S1x2048x2048_S1x1x2048x2048_0_2_3
  dot_S1x2048x1024_S1024x1024_S1x2048x1024_2_0_01_1_n_n_wf := Cert.ReferenceIdeal.Gen.facts.dot_S1x2048x1024_S1024x1024_S1x2048x1024_2_0_01_1_n_n_wf
  dot_S1x2048x1024_S1024x64_S1x2048x64_2_0_01_1_n_n_wf := Cert.ReferenceIdeal.Gen.facts.dot_S1x2048x1024_S1024x64_S1x2048x64_2_0_01_1_n_n_wf
  dot_S1x2048x64_S1x2048x64_S1x2048x2048_2_2_1_1_0_0_wf := Cert.ReferenceIdeal.Gen.facts.dot_S1x2048x64_S1x2048x64_S1x2048x2048_2_2_1_1_0_0_wf
  dot_S1x16x2048x64_S1x16x2048x64_S1x16x2048x2048_3_3_2_2_01_01_wf := Cert.ReferenceIdeal.Gen.facts.dot_S1x16x2048x64_S1x16x2048x64_S1x16x2048x2048_3_3_2_2_01_01_wf

variable (x0 : FVec Ideal ⟨3, ![1, 2048, 1024]⟩ .f32) (x1 : FVec Ideal ⟨4, ![1, 1, 2048, 2048]⟩ .f32) (x2 : FVec Ideal ⟨1, ![1024]⟩ .f32)
  (x3 x4 x5 x6 : FVec Ideal ⟨2, ![1024, 1024]⟩ .f32) (x7 : FVec Ideal ⟨2, ![1024, 64]⟩ .f32) (x8 : FVec Ideal ⟨2, ![1024, 4096]⟩ .f32)
  (x9 : FVec Ideal ⟨1, ![4096]⟩ .f32) (x10 : FVec Ideal ⟨2, ![4096, 1024]⟩ .f32) (x11 : FVec Ideal ⟨1, ![1024]⟩ .f32)
  (x12 x13 x14 x15 : FVec Ideal ⟨0, ![]⟩ .f32)

local notation "𝓘" => inp x0 x1 x2 x3 x4 x5 x6 x7 x8 x9 x10 x11 x12 x13 x14

/-- The precondition is the comparison of the reference's scores with the two bounds. -/
theorem pre_eq : @Cert.Pre_scores_in_range.fn preFacts Ideal _ x0 x1 x2 x3 x4 x5 x6 x7 x8 x9 x10 x11 x12 x13 x14 x15 =
    andi (cmpf .ogt (val_main_v39 (F := Ideal) x0 x1 x2 x3 x4 x7 x14)
        (broadcastInDim S1x16x2048x2048 ![] bcast_S_S1x16x2048x2048 (constant (F := Ideal) S_ .f32 0xFF61B1E6#32)))
      (cmpf .olt (val_main_v39 (F := Ideal) x0 x1 x2 x3 x4 x7 x14)
        (broadcastInDim S1x16x2048x2048 ![] bcast_S_S1x16x2048x2048 (constant (F := Ideal) S_ .f32 0x7F800000#32))) := by
  rfl

theorem and_one (a b : BitVec 1) (h : IntOp.andi a b = 1#1) : a = 1#1 ∧ b = 1#1 := by
  revert a b
  decide

theorem cmp_gt (a b : EReal) (h : FloatOps.cmpf (F := Ideal) (φ := .f32) .ogt a b = 1#1) : b < a := by
  change Ideal.cmp .ogt a b = 1#1 at h
  unfold Ideal.cmp at h
  by_contra e
  simp [e] at h

theorem cmp_lt (a b : EReal) (h : FloatOps.cmpf (F := Ideal) (φ := .f32) .olt a b = 1#1) : a < b := by
  change Ideal.cmp .olt a b = 1#1 at h
  unfold Ideal.cmp at h
  by_contra e
  simp [e] at h

/-- Under the precondition every score lies strictly between the bounds. -/
theorem range (hp : @Cert.Pre_scores_in_range.fn preFacts Ideal _ x0 x1 x2 x3 x4 x5 x6 x7 x8 x9 x10 x11 x12 x13 x14 x15 = fun _ => 1#1) (h : Fin 16) (n p : Fin 2048) :
    NEG < Inp.s 𝓘 h n p ∧ Inp.s 𝓘 h n p < ⊤ := by
  rw [pre_eq] at hp
  have e := congrFun hp (ix4 (0 : Fin 1) h n p)
  have es := Score.s_apply x0 x1 x2 x3 x4 x5 x6 x7 x8 x9 x10 x11 x12 x13 x14 h n p
  rw [← es]
  have e2 := and_one _ _ e
  refine ⟨cmp_gt _ _ e2.1, lt_of_lt_of_le (cmp_lt _ _ e2.2) le_top⟩

theorem idx_val (hc : ∀ h n p, NEG < Inp.s 𝓘 h n p) : val_main_indices (F := Ideal) x0 x1 x2 x3 x4 x7 x14 = Inp.idx4 𝓘 := by
  funext y
  obtain ⟨h, n, i, rfl⟩ : ∃ (h : Fin 16) (n : Fin 2048) (i : Fin 32), y = ix4 (0 : Fin 1) h n i :=
    ⟨y 1, y 2, y 3, funext fun a => by fin_cases a <;> first | rfl | exact Subsingleton.elim (α := Fin 1) _ _⟩
  exact (Top.top_apply x0 x1 x2 x3 x4 x5 x6 x7 x8 x9 x10 x11 x12 x13 x14 hc h n i).2

theorem out_val (hc : ∀ h n p, NEG < Inp.s 𝓘 h n p) (ht : ∀ h n p, Inp.s 𝓘 h n p < ⊤) :
    val_main_v91 (F := Ideal) x0 x1 x2 x3 x4 x5 x6 x7 x8 x9 x10 x11 x12 x13 x14 = Inp.out3 𝓘 := by
  funext y
  obtain ⟨n, j, rfl⟩ : ∃ (n : Fin 2048) (j : Fin 1024), y = ix3 (0 : Fin 1) n j :=
    ⟨y 1, y 2, funext fun a => by fin_cases a <;> first | rfl | exact Subsingleton.elim (α := Fin 1) _ _⟩
  exact Outer.res_apply x0 x1 x2 x3 x4 x5 x6 x7 x8 x9 x10 x11 x12 x13 x14 (RAttn.attn_apply x0 x1 x2 x3 x4 x5 x6 x7 x8 x9 x10 x11 x12 x13 x14 hc ht) n j

end

end Cert.ReferenceIdeal.RVal
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KVal
public import proofs.«01_k».proof.Proof.RunI
public import proofs.«01_k».proof.Proof.RefVal

/-! The claims put together. -/

@[expose] public section

noncomputable section

namespace Cert.Proof

open Idealize.ShloMosaic Idealize.SL.Sem Cert.Rows Cert.KernelIdeal.Attn Cert.KernelIdeal.Body Cert.Spec

section
open Cert.ReferenceIdeal

/-- The arguments of the reference on a device. -/
def refI (m' : (ℓ : Loc nD τ sig) → Buf (Elt Ideal) ℓ) (c : Dev nD) : Inp :=
  inp (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14))

end

theorem algebraic : @algebraic_KernelIdeal_ReferenceIdeal_pre_scores_in_range Cert.KernelIdeal.Gen.facts Cert.ReferenceIdeal.Gen.facts Cert.ReferenceIdeal.RVal.preFacts := by
  intro m g m' g' hpre hargs
  have hr : ∀ c h n p, NEG < (Cert.KernelIdeal.KVal.I m c).s h n p ∧ (Cert.KernelIdeal.KVal.I m c).s h n p < ⊤ := fun c h n p =>
    Cert.ReferenceIdeal.RVal.range _ _ _ _ _ _ _ _ _ _ _ _ _ _ _ _ (hpre c) h n p
  have hI : ∀ c : Dev Cert.KernelIdeal.nD, refI m' c = Cert.KernelIdeal.KVal.I m c := fun c => by
    obtain ⟨h0, h1, h2, h3, h4, h5, h6, h7, h8, h9, h10, h11, h12, h13, h14, h15⟩ := hargs c
    unfold refI Cert.KernelIdeal.KVal.I
    rw [h0, h1, h2, h3, h4, h5, h6, h7, h8, h9, h10, h11, h12, h13, h14]
  refine ⟨fun c => (Cert.KernelIdeal.KVal.I m c).out3, fun c => (Cert.KernelIdeal.KVal.I m c).idx4, ?_, ?_⟩
  · refine (θ_run _ _ _).mono (fun r h c => ?_) (Cert.KernelIdeal.RunI.run m g)
    exact ⟨(h.1 c).1.trans (Cert.KernelIdeal.KVal.out_val m g c fun h n p => (hr c h n p).1), (h.1 c).2.1.trans (Cert.KernelIdeal.KVal.idx_val m g c),
          (h.1 c).2.2 Cert.KernelIdeal.main_arg0 (by decide),
          (h.1 c).2.2 Cert.KernelIdeal.main_arg1 (by decide),
          (h.1 c).2.2 Cert.KernelIdeal.main_arg2 (by decide),
          (h.1 c).2.2 Cert.KernelIdeal.main_arg3 (by decide),
          (h.1 c).2.2 Cert.KernelIdeal.main_arg4 (by decide),
          (h.1 c).2.2 Cert.KernelIdeal.main_arg5 (by decide),
          (h.1 c).2.2 Cert.KernelIdeal.main_arg6 (by decide),
          (h.1 c).2.2 Cert.KernelIdeal.main_arg7 (by decide),
          (h.1 c).2.2 Cert.KernelIdeal.main_arg8 (by decide),
          (h.1 c).2.2 Cert.KernelIdeal.main_arg9 (by decide),
          (h.1 c).2.2 Cert.KernelIdeal.main_arg10 (by decide),
          (h.1 c).2.2 Cert.KernelIdeal.main_arg11 (by decide),
          (h.1 c).2.2 Cert.KernelIdeal.main_arg12 (by decide),
          (h.1 c).2.2 Cert.KernelIdeal.main_arg13 (by decide),
          (h.1 c).2.2 Cert.KernelIdeal.main_arg14 (by decide),
          (h.1 c).2.2 Cert.KernelIdeal.main_arg15 (by decide)⟩
  · refine (θ_run _ _ _).mono (fun r h c => ?_) (Cert.ReferenceIdeal.Value.run m' g')
    have hc : ∀ h n p, NEG < (refI m' c).s h n p := fun h n p => by rw [hI c]; exact (hr c h n p).1
    have ht : ∀ h n p, (refI m' c).s h n p < ⊤ := fun h n p => by rw [hI c]; exact (hr c h n p).2
    refine ⟨(h c).1.trans ((Cert.ReferenceIdeal.Read.val_main_v91_eq (StableHlo.launchContents m' c)).trans ?_),
      (h c).2.1.trans ((Cert.ReferenceIdeal.Read.val_main_indices_eq (StableHlo.launchContents m' c)).trans ?_), (h c).2.2⟩
    · exact (Cert.ReferenceIdeal.RVal.out_val (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) hc ht).trans (congrArg Inp.out3 (hI c))
    · exact (Cert.ReferenceIdeal.RVal.idx_val (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) hc).trans (congrArg Inp.idx4 (hI c))

theorem claim : Cert.Claim :=
  ⟨Cert.Kernel.Gen.facts, Cert.KernelIdeal.Gen.facts, Cert.ReferenceIdeal.Gen.facts, Cert.ReferenceIdeal.RVal.preFacts,
    fun m g _ => Cert.Kernel.Gen.frame m g, fun m g _ => Cert.KernelIdeal.Gen.frame m g, fun m g _ => Cert.KernelIdeal.Gen.frame m g,
    fun m g _ => (θ_run _ _ _).mono (fun r h => ⟨fun c => (h c).2.2, sem_eq_zero_of_no_sems rfl r.2⟩) (Cert.ReferenceIdeal.Value.run m g),
    fun m g _ => (θ_run _ _ _).mono (fun r h => ⟨fun c => (h c).2.2, sem_eq_zero_of_no_sems rfl r.2⟩) (Cert.ReferenceIdeal.Value.run m g),
    trivial, algebraic⟩

end Cert.Proof

end
